-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S4x8192x3 : Shape := ⟨3, ![4, 8192, 3]⟩
abbrev S4x8192x32 : Shape := ⟨3, ![4, 8192, 32]⟩
abbrev S4x2048x3 : Shape := ⟨3, ![4, 2048, 3]⟩
abbrev S3x16 : Shape := ⟨2, ![3, 16]⟩
abbrev S16 : Shape := ⟨1, ![16]⟩
abbrev S16x4 : Shape := ⟨2, ![16, 4]⟩
abbrev S4 : Shape := ⟨1, ![4]⟩
abbrev S140x64 : Shape := ⟨2, ![140, 64]⟩
abbrev S64 : Shape := ⟨1, ![64]⟩
abbrev S64x16 : Shape := ⟨2, ![64, 16]⟩
abbrev S64x64 : Shape := ⟨2, ![64, 64]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_

variable [Facts]

def fn {F : FTy → Type} [FloatOps F] (main_arg0 : FVec F S4x8192x3 .f32) (main_arg1 : FVec F S4x8192x32 .f32) (main_arg2 : FVec F S4x2048x3 .f32) (main_arg3 : FVec F S4x8192x3 .f32) (main_arg4 : FVec F S4x2048x3 .f32) (main_arg5 : FVec F S3x16 .f32) (main_arg6 : FVec F S16 .f32) (main_arg7 : FVec F S16x4 .f32) (main_arg8 : FVec F S4 .f32) (main_arg9 : FVec F S140x64 .f32) (main_arg10 : FVec F S64 .f32) (main_arg11 : FVec F S64x16 .f32) (main_arg12 : FVec F S16 .f32) (main_arg13 : FVec F S3x16 .f32) (main_arg14 : FVec F S16 .f32) (main_arg15 : FVec F S16x4 .f32) (main_arg16 : FVec F S4 .f32) (main_arg17 : FVec F S64x64 .f32) (main_arg18 : FVec F S64 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x2048x3 .f32 := Host.absf main_arg2
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x32 : Shape := ⟨3, ![4, 8192, 32]⟩
abbrev S4x2048x3 : Shape := ⟨3, ![4, 2048, 3]⟩
abbrev S3x16 : Shape := ⟨2, ![3, 16]⟩
abbrev S16 : Shape := ⟨1, ![16]⟩
abbrev S16x4 : Shape := ⟨2, ![16, 4]⟩
abbrev S4 : Shape := ⟨1, ![4]⟩
abbrev S140x64 : Shape := ⟨2, ![140, 64]⟩
abbrev S64 : Shape := ⟨1, ![64]⟩
abbrev S64x16 : Shape := ⟨2, ![64, 16]⟩
abbrev S64x64 : Shape := ⟨2, ![64, 64]⟩
abbrev S4x3x8192 : Shape := ⟨3, ![4, 3, 8192]⟩
abbrev S4x3x2048 : Shape := ⟨3, ![4, 3, 2048]⟩
abbrev S4x2048x16 : Shape := ⟨3, ![4, 2048, 16]⟩
abbrev S1x3x256 : Shape := ⟨3, ![1, 3, 256]⟩
abbrev S1x3x8192 : Shape := ⟨3, ![1, 3, 8192]⟩
abbrev S1x256x16 : Shape := ⟨3, ![1, 256, 16]⟩
abbrev S3x256 : Shape := ⟨2, ![3, 256]⟩
abbrev S3x8192 : Shape := ⟨2, ![3, 8192]⟩
abbrev S256x8192 : Shape := ⟨2, ![256, 8192]⟩
abbrev S8192 : Shape := ⟨1, ![8192]⟩
abbrev S1x8192 : Shape := ⟨2, ![1, 8192]⟩
abbrev S256 : Shape := ⟨1, ![256]⟩
abbrev S256x1 : Shape := ⟨2, ![256, 1]⟩
abbrev S256x16 : Shape := ⟨2, ![256, 16]⟩
abbrev S1x3x2048 : Shape := ⟨3, ![1, 3, 2048]⟩
abbrev S3x2048 : Shape := ⟨2, ![3, 2048]⟩
abbrev S256x2048 : Shape := ⟨2, ![256, 2048]⟩
abbrev S2048 : Shape := ⟨1, ![2048]⟩
abbrev S1x2048 : Shape := ⟨2, ![1, 2048]⟩
abbrev S_ : Shape := ⟨0, ![]⟩
abbrev S4x8192x13 : Shape := ⟨3, ![4, 8192, 13]⟩
abbrev S4x8192x48 : Shape := ⟨3, ![4, 8192, 48]⟩
abbrev S4x32768 : Shape := ⟨2, ![4, 32768]⟩
abbrev S4x32768x1 : Shape := ⟨3, ![4, 32768, 1]⟩
abbrev S4x32768x48 : Shape := ⟨3, ![4, 32768, 48]⟩
abbrev S4x35x64 : Shape := ⟨3, ![4, 35, 64]⟩
abbrev S4x48x64 : Shape := ⟨3, ![4, 48, 64]⟩
abbrev S192x64 : Shape := ⟨2, ![192, 64]⟩
abbrev S1x16 : Shape := ⟨2, ![1, 16]⟩
abbrev S1x4 : Shape := ⟨2, ![1, 4]⟩
abbrev S1x64 : Shape := ⟨2, ![1, 64]⟩
abbrev S4x2048x64 : Shape := ⟨3, ![4, 2048, 64]⟩
abbrev S1x4096x48 : Shape := ⟨3, ![1, 4096, 48]⟩
abbrev S1x256x3 : Shape := ⟨3, ![1, 256, 3]⟩
abbrev S1x256x64 : Shape := ⟨3, ![1, 256, 64]⟩
abbrev S4096x48 : Shape := ⟨2, ![4096, 48]⟩
abbrev S256x3 : Shape := ⟨2, ![256, 3]⟩
abbrev S256x1x3 : Shape := ⟨3, ![256, 1, 3]⟩
abbrev S256x16x3 : Shape := ⟨3, ![256, 16, 3]⟩
abbrev S4096x3 : Shape := ⟨2, ![4096, 3]⟩
abbrev S4096x16 : Shape := ⟨2, ![4096, 16]⟩
abbrev S4096x4 : Shape := ⟨2, ![4096, 4]⟩
abbrev S4096x32 : Shape := ⟨2, ![4096, 32]⟩
abbrev S4096x13 : Shape := ⟨2, ![4096, 13]⟩
abbrev S256x16x4 : Shape := ⟨3, ![256, 16, 4]⟩
abbrev S256x16x48 : Shape := ⟨3, ![256, 16, 48]⟩
abbrev S256x16x4x1 : Shape := ⟨4, ![256, 16, 4, 1]⟩
abbrev S256x16x1x48 : Shape := ⟨4, ![256, 16, 1, 48]⟩
abbrev S256x16x4x48 : Shape := ⟨4, ![256, 16, 4, 48]⟩
abbrev S256x4x48 : Shape := ⟨3, ![256, 4, 48]⟩
abbrev S256x64 : Shape := ⟨2, ![256, 64]⟩
abbrev S256x1x48 : Shape := ⟨3, ![256, 1, 48]⟩
abbrev S256x48 : Shape := ⟨2, ![256, 48]⟩
abbrev S48x64 : Shape := ⟨2, ![48, 64]⟩
abbrev S4x2048x13 : Shape := ⟨3, ![4, 2048, 13]⟩
abbrev S4x2048x32 : Shape := ⟨3, ![4, 2048, 32]⟩
abbrev S4x32768x32 : Shape := ⟨3, ![4, 32768, 32]⟩
abbrev S4x16x64 : Shape := ⟨3, ![4, 16, 64]⟩
abbrev S4x32x64 : Shape := ⟨3, ![4, 32, 64]⟩
abbrev S128x64 : Shape := ⟨2, ![128, 64]⟩
abbrev S1x4096x32 : Shape := ⟨3, ![1, 4096, 32]⟩
abbrev S256x16x32 : Shape := ⟨3, ![256, 16, 32]⟩
abbrev S256x16x1x32 : Shape := ⟨4, ![256, 16, 1, 32]⟩
abbrev S256x16x4x32 : Shape := ⟨4, ![256, 16, 4, 32]⟩
abbrev S256x4x32 : Shape := ⟨3, ![256, 4, 32]⟩
abbrev S256x1x32 : Shape := ⟨3, ![256, 1, 32]⟩
abbrev S256x32 : Shape := ⟨2, ![256, 32]⟩
abbrev S32x64 : Shape := ⟨2, ![32, 64]⟩

abbrev nBuf : Space → Nat
  | .hbm => 69
  | .vmem => 42
  | .smem => 0
  | _ => 0

abbrev bufTy : (tb : Table) → Fin (tcTables nBuf tb) → BufTy
  | .hbm, ⟨0, _⟩ => ⟨S4x8192x3, .f32⟩
  | .hbm, ⟨1, _⟩ => ⟨S4x8192x32, .f32⟩
  | .hbm, ⟨2, _⟩ => ⟨S4x2048x3, .f32⟩
  | .hbm, ⟨3, _⟩ => ⟨S4x8192x3, .f32⟩
  | .hbm, ⟨4, _⟩ => ⟨S4x2048x3, .f32⟩
  | .hbm, ⟨5, _⟩ => ⟨S3x16, .f32⟩
  | .hbm, ⟨6, _⟩ => ⟨S16, .f32⟩
  | .hbm, ⟨7, _⟩ => ⟨S16x4, .f32⟩
  | .hbm, ⟨8, _⟩ => ⟨S4, .f32⟩
  | .hbm, ⟨9, _⟩ => ⟨S140x64, .f32⟩
  | .hbm, ⟨10, _⟩ => ⟨S64, .f32⟩
  | .hbm, ⟨11, _⟩ => ⟨S64x16, .f32⟩
  | .hbm, ⟨12, _⟩ => ⟨S16, .f32⟩
  | .hbm, ⟨13, _⟩ => ⟨S3x16, .f32⟩
  | .hbm, ⟨14, _⟩ => ⟨S16, .f32⟩
  | .hbm, ⟨15, _⟩ => ⟨S16x4, .f32⟩
  | .hbm, ⟨16, _⟩ => ⟨S4, .f32⟩
  | .hbm, ⟨17, _⟩ => ⟨S64x64, .f32⟩
  | .hbm, ⟨18, _⟩ => ⟨S64, .f32⟩
  | .hbm, ⟨19, _⟩ => ⟨S4x3x8192, .f32⟩
  | .hbm, ⟨20, _⟩ => ⟨S4x3x2048, .f32⟩
  | .hbm, ⟨21, _⟩ => ⟨S4x2048x16, .i32⟩
  | .hbm, ⟨22, _⟩ => ⟨S4x2048x16, .i32⟩
  | .hbm, ⟨23, _⟩ => ⟨S_, .f32⟩
  | .hbm, ⟨24, _⟩ => ⟨S4x8192x13, .f32⟩
  | .hbm, ⟨25, _⟩ => ⟨S4x8192x48, .f32⟩
  | .hbm, ⟨26, _⟩ => ⟨S4x32768, .i32⟩
  | .hbm, ⟨27, _⟩ => ⟨S_, .i32⟩
  | .hbm, ⟨28, _⟩ => ⟨S4x32768, .i32⟩
  | .hbm, ⟨29, _⟩ => ⟨S4x32768, .i1⟩
  | .hbm, ⟨30, _⟩ => ⟨S_, .i32⟩
  | .hbm, ⟨31, _⟩ => ⟨S4x32768, .i32⟩
  | .hbm, ⟨32, _⟩ => ⟨S4x32768, .i32⟩
  | .hbm, ⟨33, _⟩ => ⟨S4x32768, .i32⟩
  | .hbm, ⟨34, _⟩ => ⟨S4x32768x1, .i32⟩
  | .hbm, ⟨35, _⟩ => ⟨S4x32768x48, .f32⟩
  | .hbm, ⟨36, _⟩ => ⟨S4x35x64, .f32⟩
  | .hbm, ⟨37, _⟩ => ⟨S_, .i32⟩
  | .hbm, ⟨38, _⟩ => ⟨S_, .f32⟩
  | .hbm, ⟨39, _⟩ => ⟨S4x48x64, .f32⟩
  | .hbm, ⟨40, _⟩ => ⟨S192x64, .f32⟩
  | .hbm, ⟨41, _⟩ => ⟨S1x16, .f32⟩
  | .hbm, ⟨42, _⟩ => ⟨S1x4, .f32⟩
  | .hbm, ⟨43, _⟩ => ⟨S1x64, .f32⟩
  | .hbm, ⟨44, _⟩ => ⟨S1x16, .f32⟩
  | .hbm, ⟨45, _⟩ => ⟨S4x2048x64, .f32⟩
  | .hbm, ⟨46, _⟩ => ⟨S4x2048x16, .f32⟩
  | .hbm, ⟨47, _⟩ => ⟨S_, .f32⟩
  | .hbm, ⟨48, _⟩ => ⟨S4x2048x13, .f32⟩
  | .hbm, ⟨49, _⟩ => ⟨S4x2048x32, .f32⟩
  | .hbm, ⟨50, _⟩ => ⟨S4x32768, .i32⟩
  | .hbm, ⟨51, _⟩ => ⟨S_, .i32⟩
  | .hbm, ⟨52, _⟩ => ⟨S4x32768, .i32⟩
  | .hbm, ⟨53, _⟩ => ⟨S4x32768, .i1⟩
  | .hbm, ⟨54, _⟩ => ⟨S_, .i32⟩
  | .hbm, ⟨55, _⟩ => ⟨S4x32768, .i32⟩
  | .hbm, ⟨56, _⟩ => ⟨S4x32768, .i32⟩
  | .hbm, ⟨57, _⟩ => ⟨S4x32768, .i32⟩
  | .hbm, ⟨58, _⟩ => ⟨S4x32768x1, .i32⟩
  | .hbm, ⟨59, _⟩ => ⟨S4x32768x32, .f32⟩
  | .hbm, ⟨60, _⟩ => ⟨S4x16x64, .f32⟩
  | .hbm, ⟨61, _⟩ => ⟨S_, .i32⟩
  | .hbm, ⟨62, _⟩ => ⟨S_, .f32⟩
  | .hbm, ⟨63, _⟩ => ⟨S4x32x64, .f32⟩
  | .hbm, ⟨64, _⟩ => ⟨S128x64, .f32⟩
  | .hbm, ⟨65, _⟩ => ⟨S1x16, .f32⟩
  | .hbm, ⟨66, _⟩ => ⟨S1x4, .f32⟩
  | .hbm, ⟨67, _⟩ => ⟨S1x64, .f32⟩
  | .hbm, ⟨68, _⟩ => ⟨S4x2048x64, .f32⟩
  | .local _ .vmem, ⟨0, _⟩ => ⟨S1x3x256, .f32⟩
  | .local _ .vmem, ⟨1, _⟩ => ⟨S1x3x256, .f32⟩
  | .local _ .vmem, ⟨2, _⟩ => ⟨S1x3x8192, .f32⟩
  | .local _ .vmem, ⟨3, _⟩ => ⟨S1x3x8192, .f32⟩
  | .local _ .vmem, ⟨4, _⟩ => ⟨S1x256x16, .i32⟩
  | .local _ .vmem, ⟨5, _⟩ => ⟨S1x256x16, .i32⟩
  | .local _ .vmem, ⟨6, _⟩ => ⟨S1x3x256, .f32⟩
  | .local _ .vmem, ⟨7, _⟩ => ⟨S1x3x256, .f32⟩
  | .local _ .vmem, ⟨8, _⟩ => ⟨S1x3x2048, .f32⟩
  | .local _ .vmem, ⟨9, _⟩ => ⟨S1x3x2048, .f32⟩
  | .local _ .vmem, ⟨10, _⟩ => ⟨S1x256x16, .i32⟩
  | .local _ .vmem, ⟨11, _⟩ => ⟨S1x256x16, .i32⟩
  | .local _ .vmem, ⟨12, _⟩ => ⟨S1x4096x48, .f32⟩
  | .local _ .vmem, ⟨13, _⟩ => ⟨S1x4096x48, .f32⟩
  | .local _ .vmem, ⟨14, _⟩ => ⟨S1x256x3, .f32⟩
  | .local _ .vmem, ⟨15, _⟩ => ⟨S1x256x3, .f32⟩
  | .local _ .vmem, ⟨16, _⟩ => ⟨S3x16, .f32⟩
  | .local _ .vmem, ⟨17, _⟩ => ⟨S1x16, .f32⟩
  | .local _ .vmem, ⟨18, _⟩ => ⟨S16x4, .f32⟩
  | .local _ .vmem, ⟨19, _⟩ => ⟨S1x4, .f32⟩
  | .local _ .vmem, ⟨20, _⟩ => ⟨S192x64, .f32⟩
  | .local _ .vmem, ⟨21, _⟩ => ⟨S1x64, .f32⟩
  | .local _ .vmem, ⟨22, _⟩ => ⟨S64x16, .f32⟩
  | .local _ .vmem, ⟨23, _⟩ => ⟨S1x16, .f32⟩
  | .local _ .vmem, ⟨24, _⟩ => ⟨S1x256x64, .f32⟩
  | .local _ .vmem, ⟨25, _⟩ => ⟨S1x256x64, .f32⟩
  | .local _ .vmem, ⟨26, _⟩ => ⟨S1x256x16, .f32⟩
  | .local _ .vmem, ⟨27, _⟩ => ⟨S1x256x16, .f32⟩
  | .local _ .vmem, ⟨28, _⟩ => ⟨S1x4096x32, .f32⟩
  | .local _ .vmem, ⟨29, _⟩ => ⟨S1x4096x32, .f32⟩
  | .local _ .vmem, ⟨30, _⟩ => ⟨S1x256x3, .f32⟩
  | .local _ .vmem, ⟨31, _⟩ => ⟨S1x256x3, .f32⟩
  | .local _ .vmem, ⟨32, _⟩ => ⟨S1x256x64, .f32⟩
  | .local _ .vmem, ⟨33, _⟩ => ⟨S1x256x64, .f32⟩
  | .local _ .vmem, ⟨34, _⟩ => ⟨S3x16, .f32⟩
  | .local _ .vmem, ⟨35, _⟩ => ⟨S1x16, .f32⟩
  | .local _ .vmem, ⟨36, _⟩ => ⟨S16x4, .f32⟩
  | .local _ .vmem, ⟨37, _⟩ => ⟨S1x4, .f32⟩
  | .local _ .vmem, ⟨38, _⟩ => ⟨S128x64, .f32⟩
  | .local _ .vmem, ⟨39, _⟩ => ⟨S1x64, .f32⟩
  | .local _ .vmem, ⟨40, _⟩ => ⟨S1x256x64, .f32⟩
  | .local _ .vmem, ⟨41, _⟩ => ⟨S1x256x64, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_call0_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_call1_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg10_1 : Ref sig .tc := ⟨.vmem, 25, rfl⟩
abbrev cc2_stg11_0 : Ref sig .tc := ⟨.vmem, 26, rfl⟩
abbrev cc2_stg11_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem10_1 : DmaSem sig := 25
abbrev cc2_sem11_0 : DmaSem sig := 26
abbrev cc2_sem11_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x3x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x16 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x4096x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S3x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S192x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x256x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x256x16 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x4096x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S3x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S16x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S128x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x256x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]
-- ==== KernelIdeal.lean ====
variable {F : FTy → Type} [FloatOps F] [Named F]
def κ : String → Option EReal := fun
  | "big" => some ⊤
  | _ => none
-- ==== ReferenceIdeal.lean ====
abbrev S4x8192x3 : Shape := ⟨3, ![4, 8192, 3]⟩
abbrev S4x8192x32 : Shape := ⟨3, ![4, 8192, 32]⟩
abbrev S4x2048x3 : Shape := ⟨3, ![4, 2048, 3]⟩
abbrev S3x16 : Shape := ⟨2, ![3, 16]⟩
abbrev S16 : Shape := ⟨1, ![16]⟩
abbrev S16x4 : Shape := ⟨2, ![16, 4]⟩
abbrev S4 : Shape := ⟨1, ![4]⟩
abbrev S140x64 : Shape := ⟨2, ![140, 64]⟩
abbrev S64 : Shape := ⟨1, ![64]⟩
abbrev S64x16 : Shape := ⟨2, ![64, 16]⟩
abbrev S64x64 : Shape := ⟨2, ![64, 64]⟩
abbrev S_ : Shape := ⟨0, ![]⟩
abbrev S4x2048 : Shape := ⟨2, ![4, 2048]⟩
abbrev S4x2048x1 : Shape := ⟨3, ![4, 2048, 1]⟩
abbrev S4x2048x8192 : Shape := ⟨3, ![4, 2048, 8192]⟩
abbrev S4x8192 : Shape := ⟨2, ![4, 8192]⟩
abbrev S4x1x8192 : Shape := ⟨3, ![4, 1, 8192]⟩
abbrev S4x2048x16 : Shape := ⟨3, ![4, 2048, 16]⟩
abbrev S4x2048x16x1 : Shape := ⟨4, ![4, 2048, 16, 1]⟩
abbrev S4x2048x16x3 : Shape := ⟨4, ![4, 2048, 16, 3]⟩
abbrev S4x2048x1x3 : Shape := ⟨4, ![4, 2048, 1, 3]⟩
abbrev S4x2048x16x32 : Shape := ⟨4, ![4, 2048, 16, 32]⟩
abbrev S4x2048x16x35 : Shape := ⟨4, ![4, 2048, 16, 35]⟩
abbrev S4x2048x16x16 : Shape := ⟨4, ![4, 2048, 16, 16]⟩
abbrev S1x1x1x16 : Shape := ⟨4, ![1, 1, 1, 16]⟩
abbrev S4x2048x16x4 : Shape := ⟨4, ![4, 2048, 16, 4]⟩
abbrev S1x1x1x4 : Shape := ⟨4, ![1, 1, 1, 4]⟩
abbrev S4x2048x4x35 : Shape := ⟨4, ![4, 2048, 4, 35]⟩
abbrev S4x2048x140 : Shape := ⟨3, ![4, 2048, 140]⟩
abbrev S4x2048x64 : Shape := ⟨3, ![4, 2048, 64]⟩
abbrev S1x1x64 : Shape := ⟨3, ![1, 1, 64]⟩
abbrev S4x2048x2048 : Shape := ⟨3, ![4, 2048, 2048]⟩
abbrev S4x1x2048 : Shape := ⟨3, ![4, 1, 2048]⟩
abbrev S1x1x16 : Shape := ⟨3, ![1, 1, 16]⟩
abbrev S4x2048x4x16 : Shape := ⟨4, ![4, 2048, 4, 16]⟩

abbrev nBuf : Space → Nat
  | .hbm => 148
  | .vmem => 0
  | .smem => 0
  | _ => 0

abbrev hbmTy0_0 (i : Nat) : BufTy := match i % 128 with
  | 0 => ⟨S4x8192x3, .f32⟩
  | 1 => ⟨S4x8192x32, .f32⟩
  | 2 => ⟨S4x2048x3, .f32⟩
  | 3 => ⟨S4x8192x3, .f32⟩
  | 4 => ⟨S4x2048x3, .f32⟩
  | 5 => ⟨S3x16, .f32⟩
  | 6 => ⟨S16, .f32⟩
  | 7 => ⟨S16x4, .f32⟩
  | 8 => ⟨S4, .f32⟩
  | 9 => ⟨S140x64, .f32⟩
  | 10 => ⟨S64, .f32⟩
  | 11 => ⟨S64x16, .f32⟩
  | 12 => ⟨S16, .f32⟩
  | 13 => ⟨S3x16, .f32⟩
  | 14 => ⟨S16, .f32⟩
  | 15 => ⟨S16x4, .f32⟩
  | 16 => ⟨S4, .f32⟩
  | 17 => ⟨S64x64, .f32⟩
  | 18 => ⟨S64, .f32⟩
  | 19 => ⟨S4x2048x3, .f32⟩
  | 20 => ⟨S_, .f32⟩
  | 21 => ⟨S4x2048, .f32⟩
  | 22 => ⟨S4x2048x1, .f32⟩
  | 23 => ⟨S4x2048x8192, .f32⟩
  | 24 => ⟨S_, .f32⟩
  | 25 => ⟨S4x2048x8192, .f32⟩
  | 26 => ⟨S4x2048x8192, .f32⟩
  | 27 => ⟨S4x2048x8192, .f32⟩
  | 28 => ⟨S4x2048x8192, .f32⟩
  | 29 => ⟨S4x8192x3, .f32⟩
  | 30 => ⟨S_, .f32⟩
  | 31 => ⟨S4x8192, .f32⟩
  | 32 => ⟨S4x1x8192, .f32⟩
  | 33 => ⟨S4x2048x8192, .f32⟩
  | 34 => ⟨S4x2048x8192, .f32⟩
  | 35 => ⟨S4x2048x8192, .f32⟩
  | 36 => ⟨S4x2048x16, .f32⟩
  | 37 => ⟨S4x2048x16, .i32⟩
  | 38 => ⟨S_, .i32⟩
  | 39 => ⟨S4x2048x16, .i32⟩
  | 40 => ⟨S4x2048x16, .i1⟩
  | 41 => ⟨S_, .i32⟩
  | 42 => ⟨S4x2048x16, .i32⟩
  | 43 => ⟨S4x2048x16, .i32⟩
  | 44 => ⟨S4x2048x16, .i32⟩
  | 45 => ⟨S4x2048x16x1, .i32⟩
  | 46 => ⟨S4x2048x16x3, .f32⟩
  | 47 => ⟨S4x2048x1x3, .f32⟩
  | 48 => ⟨S4x2048x16x3, .f32⟩
  | 49 => ⟨S4x2048x16x3, .f32⟩
  | 50 => ⟨S_, .i32⟩
  | 51 => ⟨S4x2048x16, .i32⟩
  | 52 => ⟨S4x2048x16, .i1⟩
  | 53 => ⟨S_, .i32⟩
  | 54 => ⟨S4x2048x16, .i32⟩
  | 55 => ⟨S4x2048x16, .i32⟩
  | 56 => ⟨S4x2048x16, .i32⟩
  | 57 => ⟨S4x2048x16x1, .i32⟩
  | 58 => ⟨S4x2048x16x32, .f32⟩
  | 59 => ⟨S4x2048x16x35, .f32⟩
  | 60 => ⟨S4x2048x16x16, .f32⟩
  | 61 => ⟨S1x1x1x16, .f32⟩
  | 62 => ⟨S4x2048x16x16, .f32⟩
  | 63 => ⟨S4x2048x16x16, .f32⟩
  | 64 => ⟨S_, .f32⟩
  | 65 => ⟨S4x2048x16x16, .f32⟩
  | 66 => ⟨S4x2048x16x16, .f32⟩
  | 67 => ⟨S4x2048x16x4, .f32⟩
  | 68 => ⟨S1x1x1x4, .f32⟩
  | 69 => ⟨S4x2048x16x4, .f32⟩
  | 70 => ⟨S4x2048x16x4, .f32⟩
  | 71 => ⟨S4x2048x4x35, .f32⟩
  | 72 => ⟨S4x2048x140, .f32⟩
  | 73 => ⟨S4x2048x64, .f32⟩
  | 74 => ⟨S1x1x64, .f32⟩
  | 75 => ⟨S4x2048x64, .f32⟩
  | 76 => ⟨S4x2048x64, .f32⟩
  | 77 => ⟨S_, .f32⟩
  | 78 => ⟨S4x2048x64, .f32⟩
  | 79 => ⟨S4x2048x64, .f32⟩
  | 80 => ⟨S4x2048x3, .f32⟩
  | 81 => ⟨S_, .f32⟩
  | 82 => ⟨S4x2048, .f32⟩
  | 83 => ⟨S4x2048x1, .f32⟩
  | 84 => ⟨S4x2048x2048, .f32⟩
  | 85 => ⟨S_, .f32⟩
  | 86 => ⟨S4x2048x2048, .f32⟩
  | 87 => ⟨S4x2048x2048, .f32⟩
  | 88 => ⟨S4x2048x2048, .f32⟩
  | 89 => ⟨S4x2048x2048, .f32⟩
  | 90 => ⟨S4x2048x3, .f32⟩
  | 91 => ⟨S_, .f32⟩
  | 92 => ⟨S4x2048, .f32⟩
  | 93 => ⟨S4x1x2048, .f32⟩
  | 94 => ⟨S4x2048x2048, .f32⟩
  | 95 => ⟨S4x2048x2048, .f32⟩
  | 96 => ⟨S4x2048x2048, .f32⟩
  | 97 => ⟨S4x2048x16, .f32⟩
  | 98 => ⟨S4x2048x16, .i32⟩
  | 99 => ⟨S4x2048x16, .f32⟩
  | 100 => ⟨S1x1x16, .f32⟩
  | 101 => ⟨S4x2048x16, .f32⟩
  | 102 => ⟨S4x2048x16, .f32⟩
  | 103 => ⟨S_, .f32⟩
  | 104 => ⟨S4x2048x16, .f32⟩
  | 105 => ⟨S4x2048x16, .f32⟩
  | 106 => ⟨S_, .i32⟩
  | 107 => ⟨S4x2048x16, .i32⟩
  | 108 => ⟨S4x2048x16, .i1⟩
  | 109 => ⟨S_, .i32⟩
  | 110 => ⟨S4x2048x16, .i32⟩
  | 111 => ⟨S4x2048x16, .i32⟩
  | 112 => ⟨S4x2048x16, .i32⟩
  | 113 => ⟨S4x2048x16x1, .i32⟩
  | 114 => ⟨S4x2048x16x3, .f32⟩
  | 115 => ⟨S4x2048x1x3, .f32⟩
  | 116 => ⟨S4x2048x16x3, .f32⟩
  | 117 => ⟨S4x2048x16x3, .f32⟩
  | 118 => ⟨S_, .i32⟩
  | 119 => ⟨S4x2048x16, .i32⟩
  | 120 => ⟨S4x2048x16, .i1⟩
  | 121 => ⟨S_, .i32⟩
  | 122 => ⟨S4x2048x16, .i32⟩
  | 123 => ⟨S4x2048x16, .i32⟩
  | 124 => ⟨S4x2048x16, .i32⟩
  | 125 => ⟨S4x2048x16x1, .i32⟩
  | 126 => ⟨S4x2048x16x16, .f32⟩
  | 127 => ⟨S4x2048x16x16, .f32⟩
  | _ => ⟨S4x8192x3, .f32⟩

abbrev hbmTy0_1 (i : Nat) : BufTy := match i % 128 with
  | 0 => ⟨S1x1x1x16, .f32⟩
  | 1 => ⟨S4x2048x16x16, .f32⟩
  | 2 => ⟨S4x2048x16x16, .f32⟩
  | 3 => ⟨S_, .f32⟩
  | 4 => ⟨S4x2048x16x16, .f32⟩
  | 5 => ⟨S4x2048x16x16, .f32⟩
  | 6 => ⟨S4x2048x16x4, .f32⟩
  | 7 => ⟨S1x1x1x4, .f32⟩
  | 8 => ⟨S4x2048x16x4, .f32⟩
  | 9 => ⟨S4x2048x16x4, .f32⟩
  | 10 => ⟨S4x2048x4x16, .f32⟩
  | 11 => ⟨S4x2048x64, .f32⟩
  | 12 => ⟨S4x2048x64, .f32⟩
  | 13 => ⟨S1x1x64, .f32⟩
  | 14 => ⟨S4x2048x64, .f32⟩
  | 15 => ⟨S4x2048x64, .f32⟩
  | 16 => ⟨S4x2048x64, .f32⟩
  | 17 => ⟨S_, .f32⟩
  | 18 => ⟨S4x2048x64, .f32⟩
  | 19 => ⟨S4x2048x64, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_values : Ref sig .tc := ⟨.hbm, 36, rfl⟩
abbrev main_indices : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_3 : Ref sig .tc := ⟨.hbm, 50, rfl⟩
abbrev main_v24 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_values_10 : Ref sig .tc := ⟨.hbm, 97, rfl⟩
abbrev main_indices_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_c_13 : Ref sig .tc := ⟨.hbm, 106, rfl⟩
abbrev main_v70 : Ref sig .tc := ⟨.hbm, 107, rfl⟩
abbrev main_v71 : Ref sig .tc := ⟨.hbm, 108, rfl⟩
abbrev main_c_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_15 : Ref sig .tc := ⟨.hbm, 118, rfl⟩
abbrev main_v80 : Ref sig .tc := ⟨.hbm, 119, rfl⟩
abbrev main_v81 : Ref sig .tc := ⟨.hbm, 120, rfl⟩
abbrev main_c_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_18 : Ref sig .tc := ⟨.hbm, 145, rfl⟩
abbrev main_v104 : Ref sig .tc := ⟨.hbm, 146, rfl⟩
abbrev main_v105 : Ref sig .tc := ⟨.hbm, 147, rfl⟩

abbrev nD : Nat := 1
abbrev τ : Topo := Topo.v7x

variable {F : FTy → Type} [FloatOps F]
-- ==== Proof.Preconditions.lean ====
/- The side conditions the precondition `finite_points` states of its shapes, proved; the three programs' frames, with and
   without the precondition; and the ledger's one named constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import Idealize.ShloMosaic.Adequacy

@[expose] public section

noncomputable section

namespace Cert.Proof.Claims

open Idealize.ShloMosaic Idealize.SL.Sem

/-- The shape facts of the precondition's operations. -/
instance finitePointsFacts : Cert.Pre_finite_points.Facts where
  bcast_S_S4x8192x3 := by decide
  reducesTo_S4x8192x3_S_d0_1_2 := by decide
  h_S_ := by decide
  bcast_S_S4x2048x3 := by decide
  reducesTo_S4x2048x3_S_d0_1_2 := by decide

/-- The printed kernel runs, leaves its arguments as they were and ends with every counter at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized kernel where the points are finite. -/
theorem frame_pi_finite : Cert.quiescent_KernelIdeal_pre_finite_points := fun m ρ _ => Cert.KernelIdeal.Gen.frame m ρ

/-- The same of the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same of the reference where the points are finite. -/
theorem frame_ri_finite : Cert.quiescent_ReferenceIdeal_pre_finite_points := fun m ρ _ => frame_ri m ρ trivial

/-- The ledger's one entry: the constant 3.0e38 that masks a chosen point is named `big` and stands for +∞. -/
theorem preserves : Cert.preserves_Kernel_KernelIdeal :=
  IdealRules.named_const.statement Cert.KernelIdeal.κ "big" .f32 0x7F61B1E6#32 ⊤ rfl

end Cert.Proof.Claims

end
-- ==== Proof.KernelRun.lean ====
/- The idealized kernel's run, with its result: from any memory it ends with the result array as the fold of @main through its
   four kernel calls leaves it (`W11`), and the arguments unchanged. The set-up of the launch is the frame's. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main terminates with the result array at the fold's contents and the arguments unchanged. -/
theorem run : θ_run defs (onTc (τ := τ) (main (F := F))) ⟨m, fun _ => 0, ρ⟩ (fun r => ∀ c : Dev nD,
      r.2.mem ((c.tc : Thread nD τ).loc main_v38) = W11 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v38 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c)⟩)

end Cert.KernelIdeal.Run

end
-- ==== Proof.Neighbours.lean ====
/- Choosing the nearest points, on plain functions. `nearest d` lists the positions of a finite row of distances in
   increasing order of distance, equal distances in increasing order of position (a stable sort). Taking the least
   remaining distance again and again, the lowest position among equals, each time setting the taken one to +∞, runs
   through the same list. -/
module

public import Idealize.ShloMosaic.Lib.SortFacts
public import Mathlib.Data.EReal.Basic
public import Mathlib.Order.Fin.Basic

@[expose] public section

noncomputable section

namespace Cert.Neighbours

open Idealize.ShloMosaic

/-- A stable sort of a list in increasing order of position depends on the relation "strictly before" only through
    comparisons of a later position with an earlier one. -/
theorem stableSort_congr_of_increasing {n : Nat} (R R' : Fin n → Fin n → Bool) (l : List (Fin n))
    (hl : l.Pairwise (· < ·)) (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The positions of the row `d`, nearest first, equal distances in order of position. -/
def nearest {n : Nat} (d : Fin n → EReal) : Fin n → Fin n :=
  sortedFrom fun a b => decide (d a < d b)

/-- Two rows that compare alike list their positions alike. -/
theorem nearest_congr {n : Nat} (d e : Fin n → EReal) (h : ∀ a b, d a < d b ↔ e a < e b) : nearest d = nearest e := by
  unfold nearest
  congr 1
  funext a b
  exact decide_eq_decide.mpr (h a b)

theorem nearest_injective {n : Nat} (d : Fin n → EReal) : Function.Injective (nearest d) := sortedFrom_injective _

theorem nearest_surjective {n : Nat} (d : Fin n → EReal) : Function.Surjective (nearest d) := sortedFrom_surjective _

/-- Position `i` of the list comes before position `j`: its distance is less, or the same at a lower position. -/
theorem nearest_lt {n : Nat} (d : Fin n → EReal) (i j : Fin n) (hij : i < j) :
    d (nearest d i) < d (nearest d j) ∨ d (nearest d i) = d (nearest d j) ∧ nearest d i < nearest d j := by
  let T : Fin n → Fin n → Bool := fun a b => decide (d a < d b ∨ d a = d b ∧ a < b)
  have hT : nearest d = sortedFrom T := by
    have e : sortPositions n (fun a b => decide (d a < d b)) = sortPositions n T :=
      stableSort_congr_of_increasing _ _ _ (List.pairwise_lt_finRange n) fun a b hab => decide_eq_decide.mpr
        ⟨Or.inl, fun h => h.elim id fun h => absurd h.2 (not_lt_of_gt hab)⟩
    funext k
    unfold nearest sortedFrom
    rw [List.get_of_eq e]
    rfl
  have hne : nearest d i ≠ nearest d j := fun e => (ne_of_lt hij) (nearest_injective d e)
  have h := sortedFrom_noInversion T T ?_ (fun _ _ h => h) ?_ i j hij
  · rw [← hT] at h
    simp only [T, decide_eq_false_iff_not, not_or, not_and, not_lt] at h
    rcases lt_or_eq_of_le h.1 with h1 | h1
    · exact Or.inl h1
    · exact Or.inr ⟨h1, lt_of_le_of_ne (h.2 h1.symm) hne⟩
  · intro a b hab
    simp only [T, decide_eq_true_eq, decide_eq_false_iff_not, not_or, not_and, not_lt] at hab ⊢
    rcases hab with h | ⟨h, h'⟩
    · exact ⟨le_of_lt h, fun e => absurd e (ne_of_gt h)⟩
    · exact ⟨le_of_eq h, fun _ => le_of_lt h'⟩
  · intro a b c hab hbc
    simp only [T, decide_eq_false_iff_not, not_or, not_and, not_lt] at hab hbc ⊢
    refine ⟨le_trans hbc.1 hab.1, fun e => ?_⟩
    have e1 : d a = d b := le_antisymm (e ▸ hbc.1) hab.1
    exact le_trans (hbc.2 (e1 ▸ e)) (hab.2 e1)

/-- The row with its `k` nearest positions set to +∞. -/
def masked {n : Nat} (d : Fin n → EReal) (k : Nat) : Fin n → EReal :=
  fun i => if ∃ a : Fin n, a.val < k ∧ nearest d a = i then ⊤ else d i

theorem masked_zero {n : Nat} (d : Fin n → EReal) : masked d 0 = d := by
  funext i
  simp [masked]

/-- Setting the next one to +∞ as well. -/
theorem masked_succ {n : Nat} (d : Fin n → EReal) (k : Fin n) (i : Fin n) :
    masked d (k.val + 1) i = if i = nearest d k then ⊤ else masked d k.val i := by
  unfold masked
  by_cases hi : i = nearest d k
  · rw [if_pos hi, if_pos ⟨k, Nat.lt_succ_self _, hi.symm⟩]
  · rw [if_neg hi]
    refine if_congr ⟨fun ⟨a, ha, e⟩ => ⟨a, ?_, e⟩, fun ⟨a, ha, e⟩ => ⟨a, Nat.lt_succ_of_lt ha, e⟩⟩ rfl rfl
    rcases Nat.lt_succ_iff_lt_or_eq.mp ha with h | h
    · exact h
    · exact absurd (Fin.ext h ▸ e.symm) hi

/-- The next one still holds its own distance. -/
theorem masked_next {n : Nat} (d : Fin n → EReal) (k : Fin n) : masked d k.val (nearest d k) = d (nearest d k) := by
  refine if_neg fun ⟨a, ha, e⟩ => ?_
  exact absurd (congrArg Fin.val (nearest_injective d e)) (ne_of_lt ha)

/-- Every remaining distance is at least the next one's. -/
theorem masked_le {n : Nat} (d : Fin n → EReal) (k i : Fin n) : d (nearest d k) ≤ masked d k.val i := by
  unfold masked
  split
  · exact le_top
  · rename_i h
    obtain ⟨a, rfl⟩ := nearest_surjective d i
    have hka : k ≤ a := not_lt.mp fun hlt => h ⟨a, hlt, rfl⟩
    rcases lt_or_eq_of_le hka with hlt | rfl
    · exact (nearest_lt d k a hlt).elim le_of_lt fun e => le_of_eq e.1
    · exact le_refl _

/-- Where every distance is below +∞, a position still holding the least remaining distance is not before the next one. -/
theorem masked_first {n : Nat} (d : Fin n → EReal) (hd : ∀ i, d i < ⊤) (k i : Fin n)
    (hi : masked d k.val i = d (nearest d k)) : nearest d k ≤ i := by
  unfold masked at hi
  split at hi
  · exact absurd hi.symm (ne_of_lt (hd _))
  · rename_i h
    obtain ⟨a, rfl⟩ := nearest_surjective d i
    have hka : k ≤ a := not_lt.mp fun hlt => h ⟨a, hlt, rfl⟩
    rcases lt_or_eq_of_le hka with hlt | rfl
    · exact (nearest_lt d k a hlt).elim (fun e => absurd hi.symm (ne_of_lt e)) fun e => le_of_lt e.2
    · exact le_refl _

end Cert.Neighbours

end
-- ==== Proof.Select.lean ====
/- One step of the kernel's choice of the nearest point, on one row of distances: the least distance as a fold of `min` from
   +∞, then the lowest position at that distance as a fold of the signed minimum of 32-bit words. -/
module

public import proofs.«01_k».proof.Proof.Neighbours
public import Idealize.ShloMosaic.Lib.Pointwise

@[expose] public section

noncomputable section

namespace Cert.Neighbours

open Idealize.ShloMosaic

/-- The pattern of +∞ stands for the top of the extended reals. -/
theorem ofBits_inf : Ideal.ofBits FTy.f32 0x7F800000#32 = ⊤ := by
  simp [Ideal.ofBits, Ideal.ieee]

/-- The pattern of 2.0 stands for the real 2. -/
theorem ofBits_two : Ideal.ofBits FTy.f32 0x40000000#32 = ((2 : ℝ) : EReal) := by
  simp [Ideal.ofBits, Ideal.ieee]
  norm_num [← EReal.coe_mul]

/-- The signed minimum of two words is the minimum of the integers they stand for. -/
theorem toInt_minsi {w : Nat} (x y : BitVec w) : (IntOp.minsi x y).toInt = min x.toInt y.toInt := by
  unfold IntOp.minsi
  rw [BitVec.slt_eq_decide]
  by_cases h : x.toInt < y.toInt
  · simp [h, min_eq_left (le_of_lt h)]
  · simp [h, min_eq_right (not_lt.mp h)]

/-- A position below 2³¹ as a signed word is itself. -/
theorem toInt_ofNat (k : Nat) (hk : k < 2147483648) : (BitVec.ofNat 32 k).toInt = (k : Int) := by
  rw [BitVec.toInt_eq_toNat_cond, BitVec.toNat_ofNat]
  omega

/-- The fold of `min` from +∞ over a row is the value at a position where the row is least. -/
theorem fold_min_eq {n : Nat} (w : Fin n → EReal) (p : Fin n) (hp : ∀ i, w p ≤ w i) :
    Finset.fold min ⊤ w Finset.univ = w p :=
  le_antisymm ((Finset.fold_min_le _).mpr (Or.inr ⟨p, Finset.mem_univ p, le_refl _⟩))
    (Finset.le_fold_min _ |>.mpr ⟨le_top, fun i _ => hp i⟩)

/-- The kernel's choice on a row: where the row is least at `p` and nowhere before it, the folds return `p` as a word. -/
theorem pick_eq {n : Nat} (hn : n < 2147483648) (w : Fin n → EReal) (p : Fin n) (hp : ∀ i, w p ≤ w i)
    (hfirst : ∀ i, w i = w p → p ≤ i) :
    Finset.fold IntOp.minsi 2147483647#32
        (fun x : Fin n => if w x = Finset.fold min (Ideal.ofBits FTy.f32 0x7F800000#32) w Finset.univ then BitVec.ofNat 32 x.val
          else BitVec.ofNat 32 n) Finset.univ
      = BitVec.ofNat 32 p.val := by
  rw [ofBits_inf, fold_min_eq w p hp]
  apply BitVec.eq_of_toInt_eq
  rw [← Finset.fold_hom (op' := min) (m := BitVec.toInt) toInt_minsi, toInt_ofNat p.val (by omega)]
  refine le_antisymm ((Finset.fold_min_le _).mpr (Or.inr ⟨p, Finset.mem_univ p, ?_⟩)) (Finset.le_fold_min _ |>.mpr ⟨?_, fun i _ => ?_⟩)
  · rw [if_pos rfl, toInt_ofNat p.val (by omega)]
  · have : (2147483647#32).toInt = 2147483647 := by decide
    omega
  · by_cases h : w i = w p
    · rw [if_pos h, toInt_ofNat i.val (by omega)]
      exact_mod_cast hfirst i h
    · rw [if_neg h, toInt_ofNat n hn]
      omega

/-- Two positions below 2³² are the same where their words are. -/
theorem ofNat_eq_iff (a b : Nat) (ha : a < 4294967296) (hb : b < 4294967296) : BitVec.ofNat 32 a = BitVec.ofNat 32 b ↔ a = b := by
  refine ⟨fun h => ?_, fun h => h ▸ rfl⟩
  have := congrArg BitVec.toNat h
  simp only [BitVec.toNat_ofNat] at this
  omega

/-- Step `k` of the kernel's choice, on the row with the `k` nearest positions set to +∞. -/
theorem pick_masked {n : Nat} (hn : n < 2147483648) (d : Fin n → EReal) (hd : ∀ i, d i < ⊤) (k : Fin n) :
    Finset.fold IntOp.minsi 2147483647#32
        (fun x : Fin n => if masked d k.val x = Finset.fold min (Ideal.ofBits FTy.f32 0x7F800000#32) (masked d k.val) Finset.univ
          then BitVec.ofNat 32 x.val else BitVec.ofNat 32 n) Finset.univ
      = BitVec.ofNat 32 (nearest d k).val :=
  pick_eq hn (masked d k.val) (nearest d k) (fun i => (masked_next d k).symm ▸ masked_le d k i)
    fun i h => masked_first d hd k i (h.trans (masked_next d k))

/-- The kernel's loop on one row: each choice is the fold of `pick_masked`, and each chosen position is set to +∞ for the
    next; so choice `k` is the `k`-th nearest position. -/
theorem chosen_eq {n : Nat} (hn : n < 2147483648) (w : Nat → Fin n → EReal) (s : Nat → BitVec 32)
    (hs : ∀ k, s k = Finset.fold IntOp.minsi 2147483647#32
        (fun x : Fin n => if w k x = Finset.fold min (Ideal.ofBits FTy.f32 0x7F800000#32) (w k) Finset.univ
          then BitVec.ofNat 32 x.val else BitVec.ofNat 32 n) Finset.univ)
    (hw : ∀ k i, w (k + 1) i = if BitVec.ofNat 32 i.val = s k then ⊤ else w k i)
    (hd : ∀ i, w 0 i < ⊤) (k : Fin n) : s k.val = BitVec.ofNat 32 (nearest (w 0) k).val := by
  have step : ∀ k : Fin n, w k.val = masked (w 0) k.val → s k.val = BitVec.ofNat 32 (nearest (w 0) k).val := fun k h => by
    rw [hs, h]
    exact pick_masked hn (w 0) hd k
  suffices h : ∀ k, k < n → w k = masked (w 0) k from step k (h k.val k.isLt)
  intro k
  induction k with
  | zero => exact fun _ => (masked_zero _).symm
  | succ k ih =>
    intro hk
    have ih := ih (Nat.lt_of_succ_lt hk)
    funext i
    rw [hw, step ⟨k, Nat.lt_of_succ_lt hk⟩ ih, ih, masked_succ (w 0) ⟨k, Nat.lt_of_succ_lt hk⟩ i]
    refine if_congr ?_ rfl rfl
    rw [ofNat_eq_iff _ _ (by omega) (by omega)]
    exact ⟨fun e => Fin.ext e, fun e => congrArg Fin.val e⟩

/-- The selection the kernel masks with, as an `if`. -/
theorem select_eq_iff {w : Nat} (a b : BitVec w) (x y : EReal) :
    Scalar.select (IntOp.cmpi .eq a b) x y = if a = b then x else y := by
  unfold Scalar.select IntOp.cmpi
  by_cases h : a = b
  · simp [h]
  · have e : (a == b) = false := by simpa using h
    simp [h, e]

end Cert.Neighbours

end
-- ==== Proof.Distance.lean ====
/- The two squared distances: the kernel's, which leaves out the query's own square, and the reference's. On finite points
   they put the points in the same order. -/
module

public import Idealize.ShloMosaic.Lib.Pointwise

@[expose] public section

noncomputable section

namespace Cert.Distance

/-- What the kernel compares: `|p|² − 2 q·p`. -/
def short (q p : Fin 3 → EReal) : EReal := ∑ x, p x * p x - ((2 : ℝ) : EReal) * ∑ x, q x * p x

/-- What the reference compares: `(|q|² − 2 q·p) + |p|²`. -/
def full (q p : Fin 3 → EReal) : EReal :=
  (∑ x, q x * q x - ((2 : ℝ) : EReal) * ∑ x, q x * p x) + ∑ x, p x * p x

/-- A finite point is a point of real coordinates. -/
theorem exists_real (q : Fin 3 → EReal) (hq : ∀ x, q x ≠ ⊤ ∧ q x ≠ ⊥) : ∃ a : Fin 3 → ℝ, q = fun x => ((a x : ℝ) : EReal) :=
  ⟨fun x => (q x).toReal, funext fun x => (EReal.coe_toReal (hq x).1 (hq x).2).symm⟩

/-- The kernel's distance of real points is the real one. -/
theorem short_coe (a b : Fin 3 → ℝ) :
    short (fun x => (a x : EReal)) (fun x => (b x : EReal)) = ((∑ x, b x * b x - 2 * ∑ x, a x * b x : ℝ) : EReal) := by
  simp only [short, Fin.sum_univ_three]
  norm_cast

/-- The reference's distance of real points is the real one. -/
theorem full_coe (a b : Fin 3 → ℝ) :
    full (fun x => (a x : EReal)) (fun x => (b x : EReal))
      = (((∑ x, a x * a x - 2 * ∑ x, a x * b x) + ∑ x, b x * b x : ℝ) : EReal) := by
  simp only [full, Fin.sum_univ_three]
  norm_cast

/-- Between finite points the kernel's distance is below +∞. -/
theorem short_lt_top (q p : Fin 3 → EReal) (hq : ∀ x, q x ≠ ⊤ ∧ q x ≠ ⊥) (hp : ∀ x, p x ≠ ⊤ ∧ p x ≠ ⊥) : short q p < ⊤ := by
  obtain ⟨a, rfl⟩ := exists_real q hq
  obtain ⟨b, rfl⟩ := exists_real p hp
  rw [short_coe]
  exact EReal.coe_lt_top _

/-- The two distances put any two finite points in the same order. -/
theorem short_lt_iff (q p p' : Fin 3 → EReal) (hq : ∀ x, q x ≠ ⊤ ∧ q x ≠ ⊥) (hp : ∀ x, p x ≠ ⊤ ∧ p x ≠ ⊥)
    (hp' : ∀ x, p' x ≠ ⊤ ∧ p' x ≠ ⊥) : short q p < short q p' ↔ full q p < full q p' := by
  obtain ⟨a, rfl⟩ := exists_real q hq
  obtain ⟨b, rfl⟩ := exists_real p hp
  obtain ⟨b', rfl⟩ := exists_real p' hp'
  rw [short_coe, short_coe, full_coe, full_coe, EReal.coe_lt_coe_iff, EReal.coe_lt_coe_iff]
  constructor <;> intro h <;> linarith

end Cert.Distance

end
-- ==== Proof.Columns.lean ====
/- What the two neighbour searches share: the mask constant, and sixteen columns of words stored side by side. -/
module

public import proofs.«01_k».proof.Proof.Gen.KernelIdeal.Frame
public import proofs.«01_k».proof.Proof.Select
public import proofs.«01_k».proof.Proof.Distance
public import Idealize.ShloMosaic.Lib.Pointwise
public import Idealize.ShloMosaic.Lib.Pipeline.ValueKit

@[expose] public section

set_option maxRecDepth 16384

noncomputable section

namespace Cert.KernelIdeal.Columns

open Cert.KernelIdeal Cert.KernelIdeal.Gen
open Idealize.ShloMosaic Idealize.ShloMosaic.TcCoe Idealize.SL.Sem

/-- The mask constant, named `big`, stands for +∞. -/
theorem big_eq : Named.named (F := Ideal) κ "big" (φ := .f32) 0x7F61B1E6#32 = ⊤ :=
  IdealRules.named_const.ideal_named_scalar _ _ _ _ rfl

/-- Sixteen columns side by side. -/
abbrev columns (p : Nat → IVec S256x1 32) : IVec S256x16 32 :=
  concatenate S256x16 1 [⟨S256x1, p 0⟩, ⟨S256x1, p 1⟩, ⟨S256x1, p 2⟩, ⟨S256x1, p 3⟩, ⟨S256x1, p 4⟩, ⟨S256x1, p 5⟩,
    ⟨S256x1, p 6⟩, ⟨S256x1, p 7⟩, ⟨S256x1, p 8⟩, ⟨S256x1, p 9⟩, ⟨S256x1, p 10⟩, ⟨S256x1, p 11⟩, ⟨S256x1, p 12⟩, ⟨S256x1, p 13⟩,
    ⟨S256x1, p 14⟩, ⟨S256x1, p 15⟩]
    concatenates_S256x1_S256x1_S256x1_S256x1_S256x1_S256x1_S256x1_S256x1_S256x1_S256x1_S256x1_S256x1_S256x1_S256x1_S256x1_S256x1_S256x16_d1

/-- Column `j` of the sixteen, at query `r`. -/
theorem columns_apply (p : Nat → IVec S256x1 32) (r : Fin 256) (j : Fin 16) : columns p (ix2 r j) = p j.val (ix2 r 0) := by
  fin_cases j <;> pointwise

/-- The same, as stored in a block. -/
theorem block_apply (p : Nat → IVec S256x1 32) (r : Fin 256) (j : Fin 16) :
    shapeCast S1x256x16 (columns p) shapeCasts_S256x16_S1x256x16 (ix3 0 r j) = p j.val (ix2 r 0) := by
  have h := columns_apply p r j
  generalize columns p = v at h
  rw [← h]
  pointwise

end Cert.KernelIdeal.Columns

end
-- ==== Proof.Knn0.lean ====
/- Neighbour search 0: what a block of 256 queries is left holding, and the array of neighbours the whole search leaves. -/
module

public import proofs.«01_k».proof.Proof.Columns

@[expose] public section

set_option maxRecDepth 16384

noncomputable section

namespace Cert.KernelIdeal.Knn0

open Cert.KernelIdeal Cert.KernelIdeal.Gen Cert.KernelIdeal.Columns Cert.Neighbours
open Idealize.ShloMosaic Idealize.ShloMosaic.TcCoe Idealize.SL.Sem
open Idealize.ShloMosaic.Pipeline (Dat)

/-- The positions of a row as words. -/
abbrev positions : IVec S1x8192 32 := iota .tc S1x8192 32 [1] iota_S1x8192_d1_w32

/-- The distances after `k` choices, each chosen one masked. -/
def left (w : FVec Ideal S256x8192 .f32) : Nat → FVec Ideal S256x8192 .f32
  | 0 => w
  | k + 1 => k0_pay18 positions (left w k)

/-- A choice, read at a query: the least distance, then the lowest position at it. -/
theorem pick_apply (w : FVec Ideal S256x8192 .f32) (r : Fin 256) :
    k0_pay17 positions w (ix2 r 0)
      = Finset.fold IntOp.minsi 2147483647#32
          (fun x : Fin 8192 => if w (ix2 r x)
              = Finset.fold min (Ideal.ofBits FTy.f32 0x7F800000#32) (fun i : Fin 8192 => w (ix2 r i)) Finset.univ
            then BitVec.ofNat 32 x.val else BitVec.ofNat 32 8192) Finset.univ := by
  pointwise [k0_pay17]

/-- The distances after one more choice. -/
theorem mask_apply (w : FVec Ideal S256x8192 .f32) (r : Fin 256) (i : Fin 8192) :
    k0_pay18 positions w (ix2 r i)
      = if BitVec.ofNat 32 i.val = k0_pay17 positions w (ix2 r 0) then ⊤ else w (ix2 r i) := by
  have e : k0_pay18 positions w = select (cmpi .eq (broadcastTo S256x8192 positions broadcasts_S1x8192_S256x8192)
      (broadcastTo S256x8192 (k0_pay17 positions w) broadcasts_S256x1_S256x8192))
      (broadcast S256x8192 (Named.named κ "big" 0x7F61B1E6#32)) w := rfl
  rw [e]
  generalize k0_pay17 positions w = s
  pointwise
  rw [big_eq]
  exact select_eq_iff _ _ _ _

/-- Choice `k` at query `r` is the `k`-th nearest position of that query's row. -/
theorem pick_left (w : FVec Ideal S256x8192 .f32) (r : Fin 256) (hd : ∀ i : Fin 8192, w (ix2 r i) < ⊤) (k : Fin 8192) :
    k0_pay17 positions (left w k.val) (ix2 r 0) = BitVec.ofNat 32 (nearest (fun i : Fin 8192 => w (ix2 r i)) k).val :=
  chosen_eq (by decide) (fun k i => left w k (ix2 r i)) (fun k => k0_pay17 positions (left w k) (ix2 r 0))
    (fun k => pick_apply (left w k) r) (fun k i => mask_apply (left w k) r i) hd k

/-- The distances of a block of queries, read at a query and a point. -/
theorem distances_apply (v0 : Vec Ideal S1x3x256 .f32) (v2 : Vec Ideal S1x3x8192 .f32) (r : Fin 256) (i : Fin 8192) :
    k0_pay5 v0 v2 (ix2 r i) = Distance.short (fun x => v0 (ix3 0 x r)) (fun x => v2 (ix3 0 x i)) := by
  pointwise [k0_pay5, ofBits_two, Distance.short]

/-- The block the search stores is the sixteen choices side by side. -/
theorem out_eq (x0 : Vec Ideal S1x3x256 .f32) (x1 : Vec Ideal S1x3x8192 .f32) :
    out0_2 x0 x1 = View.canon [⟨r0_2, shapeCast S1x256x16
      (columns fun k => k0_pay17 positions (left (k0_pay5 (View.ld x0 r0_0) (View.ld x1 r0_1)) k))
      shapeCasts_S256x16_S1x256x16⟩] := by
  rfl

/-- The block at a query and a rank: the position of that rank among the query's distances. -/
theorem out_apply (x0 : Vec Ideal S1x3x256 .f32) (x1 : Vec Ideal S1x3x8192 .f32) (r : Fin 256) (j : Fin 16)
    (hd : ∀ i : Fin 8192, Distance.short (fun x => x0 (ix3 0 x r)) (fun x => x1 (ix3 0 x i)) < ⊤) :
    out0_2 x0 x1 (ix3 0 r j)
      = BitVec.ofNat 32 (nearest (fun i : Fin 8192 => Distance.short (fun x => x0 (ix3 0 x r)) (fun x => x1 (ix3 0 x i)))
          ⟨j.val, by omega⟩).val := by
  rw [out_eq]
  frame_out
  rw [block_apply]
  have h := pick_left (k0_pay5 x0 x1) r (by simpa only [distances_apply] using hd) ⟨j.val, by omega⟩
  simp only [distances_apply] at h
  exact h

/-- Where each window's block lies at each grid point: batch, then block of queries. -/
theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, 0] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)

/-- The batch of a grid point, and the query at row `r` of its block. -/
def batch (t : Fin grid0.N) : Fin 4 := ⟨(grid0.coords t 0).val, (grid0.coords t 0).isLt⟩
def query (t : Fin grid0.N) (r : Fin 256) : Fin 2048 :=
  ⟨(grid0.coords t 1).val * 256 + r.val, by have : (grid0.coords t 1).val < 8 := (grid0.coords t 1).isLt; omega⟩

variable (V : (c : Dev nD) → (b : Ref sig .tc) → Buf (Elt Ideal) ((c : Thread nD τ).loc b)) (c : Dev nD)

/-- A block of queries is the queries of its batch at its rows. -/
theorem queries_apply (t : Fin grid0.N) (x : Fin 3) (r : Fin 256) :
    iblk0 V c 0 t (ix3 0 x r) = V c main_v1 (ix3 (batch t) x (query t r)) := by
  blk_ext! [iblk0, idx0 t, batch, query]

/-- A block of points is all the points of its batch. -/
theorem points_apply (t : Fin grid0.N) (x : Fin 3) (i : Fin 8192) :
    iblk0 V c 1 t (ix3 0 x i) = V c main_v0 (ix3 (batch t) x i) := by
  blk_ext! [iblk0, idx1 t, batch]

/-- The array of neighbours the search leaves, from the queries `q` and the points `p` it finds: at batch, query and rank,
    the position of that rank among the query's distances. -/
theorem array_eq (q : Vec Ideal S4x3x2048 .f32) (p : Vec Ideal S4x3x8192 .f32) (hq : V c main_v1 = q) (hp : V c main_v0 = p)
    (hd : ∀ (b : Fin 4) (s : Fin 2048) (i : Fin 8192), Distance.short (fun x => q (ix3 b x s)) (fun x => p (ix3 b x i)) < ⊤)
    (G : IVec S4x2048x16 32)
    (hG : ∀ (b : Fin 4) (s : Fin 2048) (j : Fin 16), G (ix3 b s j) = BitVec.ofNat 32 (nearest
      (fun i : Fin 8192 => Distance.short (fun x => q (ix3 b x s)) (fun x => p (ix3 b x i))) ⟨j.val, by omega⟩).val) :
    (dat0 V c).arrAt 2 cfg0.N = G := by
  subst hq hp
  refine (dat0 V c).arrAt_eq_of_covers 2 G (by decide +kernel) fun t hf y => ?_
  blk_simp
  rw [after0_2]
  idx_vars y
  have e : ((View.whole main_v2).slice (win0_2.rect t)).emb (ix3 y0 y1 y2) = ix3 (batch t) (query t y1) y2 := by
    blk_ext [idx2 t, batch, query]
  rw [e, hG]
  obtain rfl : y0 = 0 := Subsingleton.elim _ _
  refine (out_apply _ _ y1 y2 fun i => ?_).trans ?_
  · simp only [queries_apply, points_apply]
    exact hd _ _ _
  · simp only [queries_apply, points_apply]

end Cert.KernelIdeal.Knn0

end
-- ==== Proof.Knn1.lean ====
/- Neighbour search 1: what a block of 256 queries is left holding, and the array of neighbours the whole search leaves. -/
module

public import proofs.«01_k».proof.Proof.Columns

@[expose] public section

set_option maxRecDepth 16384

noncomputable section

namespace Cert.KernelIdeal.Knn1

open Cert.KernelIdeal Cert.KernelIdeal.Gen Cert.KernelIdeal.Columns Cert.Neighbours
open Idealize.ShloMosaic Idealize.ShloMosaic.TcCoe Idealize.SL.Sem
open Idealize.ShloMosaic.Pipeline (Dat)

/-- The positions of a row as words. -/
abbrev positions : IVec S1x2048 32 := iota .tc S1x2048 32 [1] iota_S1x2048_d1_w32

/-- The distances after `k` choices, each chosen one masked. -/
def left (w : FVec Ideal S256x2048 .f32) : Nat → FVec Ideal S256x2048 .f32
  | 0 => w
  | k + 1 => k1_pay18 positions (left w k)

/-- A choice, read at a query: the least distance, then the lowest position at it. -/
theorem pick_apply (w : FVec Ideal S256x2048 .f32) (r : Fin 256) :
    k1_pay17 positions w (ix2 r 0)
      = Finset.fold IntOp.minsi 2147483647#32
          (fun x : Fin 2048 => if w (ix2 r x)
              = Finset.fold min (Ideal.ofBits FTy.f32 0x7F800000#32) (fun i : Fin 2048 => w (ix2 r i)) Finset.univ
            then BitVec.ofNat 32 x.val else BitVec.ofNat 32 2048) Finset.univ := by
  pointwise [k1_pay17]

/-- The distances after one more choice. -/
theorem mask_apply (w : FVec Ideal S256x2048 .f32) (r : Fin 256) (i : Fin 2048) :
    k1_pay18 positions w (ix2 r i)
      = if BitVec.ofNat 32 i.val = k1_pay17 positions w (ix2 r 0) then ⊤ else w (ix2 r i) := by
  have e : k1_pay18 positions w = select (cmpi .eq (broadcastTo S256x2048 positions broadcasts_S1x2048_S256x2048)
      (broadcastTo S256x2048 (k1_pay17 positions w) broadcasts_S256x1_S256x2048))
      (broadcast S256x2048 (Named.named κ "big" 0x7F61B1E6#32)) w := rfl
  rw [e]
  generalize k1_pay17 positions w = s
  pointwise
  rw [big_eq]
  exact select_eq_iff _ _ _ _

/-- Choice `k` at query `r` is the `k`-th nearest position of that query's row. -/
theorem pick_left (w : FVec Ideal S256x2048 .f32) (r : Fin 256) (hd : ∀ i : Fin 2048, w (ix2 r i) < ⊤) (k : Fin 2048) :
    k1_pay17 positions (left w k.val) (ix2 r 0) = BitVec.ofNat 32 (nearest (fun i : Fin 2048 => w (ix2 r i)) k).val :=
  chosen_eq (by decide) (fun k i => left w k (ix2 r i)) (fun k => k1_pay17 positions (left w k) (ix2 r 0))
    (fun k => pick_apply (left w k) r) (fun k i => mask_apply (left w k) r i) hd k

/-- The distances of a block of queries, read at a query and a point. -/
theorem distances_apply (v0 : Vec Ideal S1x3x256 .f32) (v2 : Vec Ideal S1x3x2048 .f32) (r : Fin 256) (i : Fin 2048) :
    k1_pay5 v0 v2 (ix2 r i) = Distance.short (fun x => v0 (ix3 0 x r)) (fun x => v2 (ix3 0 x i)) := by
  pointwise [k1_pay5, ofBits_two, Distance.short]

/-- The block the search stores is the sixteen choices side by side. -/
theorem out_eq (x0 : Vec Ideal S1x3x256 .f32) (x1 : Vec Ideal S1x3x2048 .f32) :
    out1_2 x0 x1 = View.canon [⟨r1_2, shapeCast S1x256x16
      (columns fun k => k1_pay17 positions (left (k1_pay5 (View.ld x0 r1_0) (View.ld x1 r1_1)) k))
      shapeCasts_S256x16_S1x256x16⟩] := by
  rfl

/-- The block at a query and a rank: the position of that rank among the query's distances. -/
theorem out_apply (x0 : Vec Ideal S1x3x256 .f32) (x1 : Vec Ideal S1x3x2048 .f32) (r : Fin 256) (j : Fin 16)
    (hd : ∀ i : Fin 2048, Distance.short (fun x => x0 (ix3 0 x r)) (fun x => x1 (ix3 0 x i)) < ⊤) :
    out1_2 x0 x1 (ix3 0 r j)
      = BitVec.ofNat 32 (nearest (fun i : Fin 2048 => Distance.short (fun x => x0 (ix3 0 x r)) (fun x => x1 (ix3 0 x i)))
          ⟨j.val, by omega⟩).val := by
  rw [out_eq]
  frame_out
  rw [block_apply]
  have h := pick_left (k1_pay5 x0 x1) r (by simpa only [distances_apply] using hd) ⟨j.val, by omega⟩
  simp only [distances_apply] at h
  exact h

/-- Where each window's block lies at each grid point: batch, then block of queries. -/
theorem idx0 : ∀ t : Fin cfg1.N, win1_0.index t = ![(grid1.coords t 0).val, 0, (grid1.coords t 1).val] :=
  (by decide +kernel : ∀ t : Fin grid1.N, _)
theorem idx1 : ∀ t : Fin cfg1.N, win1_1.index t = ![(grid1.coords t 0).val, 0, 0] :=
  (by decide +kernel : ∀ t : Fin grid1.N, _)
theorem idx2 : ∀ t : Fin cfg1.N, win1_2.index t = ![(grid1.coords t 0).val, (grid1.coords t 1).val, 0] :=
  (by decide +kernel : ∀ t : Fin grid1.N, _)

/-- The batch of a grid point, and the query at row `r` of its block. -/
def batch (t : Fin grid1.N) : Fin 4 := ⟨(grid1.coords t 0).val, (grid1.coords t 0).isLt⟩
def query (t : Fin grid1.N) (r : Fin 256) : Fin 2048 :=
  ⟨(grid1.coords t 1).val * 256 + r.val, by have : (grid1.coords t 1).val < 8 := (grid1.coords t 1).isLt; omega⟩

variable (V : (c : Dev nD) → (b : Ref sig .tc) → Buf (Elt Ideal) ((c : Thread nD τ).loc b)) (c : Dev nD)

/-- A block of queries is the queries of its batch at its rows. -/
theorem queries_apply (t : Fin grid1.N) (x : Fin 3) (r : Fin 256) :
    iblk1 V c 0 t (ix3 0 x r) = V c main_v1 (ix3 (batch t) x (query t r)) := by
  blk_ext! [iblk1, idx0 t, batch, query]

/-- A block of points is all the points of its batch. -/
theorem points_apply (t : Fin grid1.N) (x : Fin 3) (i : Fin 2048) :
    iblk1 V c 1 t (ix3 0 x i) = V c main_v1 (ix3 (batch t) x i) := by
  blk_ext! [iblk1, idx1 t, batch]

/-- The array of neighbours the search leaves, from the queries `q` and the points `p` it finds: at batch, query and rank,
    the position of that rank among the query's distances. -/
theorem array_eq (q : Vec Ideal S4x3x2048 .f32) (p : Vec Ideal S4x3x2048 .f32) (hq : V c main_v1 = q) (hp : V c main_v1 = p)
    (hd : ∀ (b : Fin 4) (s : Fin 2048) (i : Fin 2048), Distance.short (fun x => q (ix3 b x s)) (fun x => p (ix3 b x i)) < ⊤)
    (G : IVec S4x2048x16 32)
    (hG : ∀ (b : Fin 4) (s : Fin 2048) (j : Fin 16), G (ix3 b s j) = BitVec.ofNat 32 (nearest
      (fun i : Fin 2048 => Distance.short (fun x => q (ix3 b x s)) (fun x => p (ix3 b x i))) ⟨j.val, by omega⟩).val) :
    (dat1 V c).arrAt 2 cfg1.N = G := by
  subst hq hp
  refine (dat1 V c).arrAt_eq_of_covers 2 G (by decide +kernel) fun t hf y => ?_
  blk_simp
  rw [after1_2]
  idx_vars y
  have e : ((View.whole main_v3).slice (win1_2.rect t)).emb (ix3 y0 y1 y2) = ix3 (batch t) (query t y1) y2 := by
    blk_ext [idx2 t, batch, query]
  rw [e, hG]
  obtain rfl : y0 = 0 := Subsingleton.elim _ _
  refine (out_apply _ _ y1 y2 fun i => ?_).trans ?_
  · simp only [queries_apply, points_apply]
    exact hd _ _ _
  · simp only [queries_apply, points_apply]

end Cert.KernelIdeal.Knn1

end
-- ==== Proof.Rows.lean ====
/- The gather of whole rows: the result's row at a position is the operand's row at the word that position holds, read signed
   and clamped to the operand. -/
module

public import Idealize.ShloMosaic.Lib.Pointwise

@[expose] public section

set_option maxRecDepth 16384

noncomputable section

namespace Cert.Rows

open Idealize.ShloMosaic

variable {α : Type} {B N D R S K : Nat}

/-- A word read signed and clamped to the positions below `n`. -/
def clamp (N : Nat) (hN : 0 < N) (v : BitVec 32) : Fin N := ⟨min v.toInt.toNat (N - 1), by omega⟩

/-- A small number's word is not negative, so it stays as it is where negative words are moved up. -/
theorem wrap_eq (k : Nat) (hk : k < 2147483648) (n : BitVec 32) :
    Scalar.select (IntOp.cmpi .slt (BitVec.ofNat 32 k) 0#32) (IntOp.addi (BitVec.ofNat 32 k) n) (BitVec.ofNat 32 k) = BitVec.ofNat 32 k := by
  have h : ¬ (BitVec.ofNat 32 k).toInt < 0 := by
    rw [BitVec.toInt_eq_toNat_cond, BitVec.toNat_ofNat]
    omega
  have h' : IntOp.cmpi .slt (BitVec.ofNat 32 k) 0#32 = 0#1 := by
    show BitVec.ofBool (decide ((BitVec.ofNat 32 k).toInt < 0)) = 0#1
    rw [decide_eq_false h]
    rfl
  rw [h']
  rfl

/-- The word of a position, clamped, is the position. -/
theorem clamp_eq (N : Nat) (hN : 0 < N) (hN' : N ≤ 2147483648) (p : Fin N) : clamp N hN (BitVec.ofNat 32 p.val) = p := by
  apply Fin.ext
  show min (BitVec.ofNat 32 p.val).toInt.toNat (N - 1) = p.val
  rw [BitVec.toInt_eq_toNat_cond, BitVec.toNat_ofNat]
  have := p.isLt
  omega

/-- The clamped word at an index depends on the index alone. -/
theorem word_at {ι : Type} (idx : ι → BitVec 32) (i j : ι) (n : Nat) (h : i = j) :
    min (idx i).toInt.toNat n + 0 + 0 = min (idx j).toInt.toNat n := by subst h; rfl

/-- Rows of a batch gathered by one list of words per batch. -/
theorem gather_list (hN : 0 < N) (d : GatherDims ⟨3, ![B, N, D]⟩ ⟨3, ![B, R, 1]⟩ ⟨3, ![B, R, D]⟩) (ho : d.offsetDims = [2])
    (hc : d.collapsedSliceDims = [1]) (hb : d.operandBatchingDims = [0]) (hs : d.startIndicesBatchingDims = [0])
    (hm : d.startIndexMap = [1]) (hv : d.indexVectorDim = 2) (hl : d.sliceSizes = ![1, 1, D])
    (x : (⟨3, ![B, N, D]⟩ : Shape).Idx → α) (idx : IVec ⟨3, ![B, R, 1]⟩ 32) (b : Fin B) (r : Fin R) (ch : Fin D) :
    Host.gather d x idx (ix3 b r ch) = x (ix3 b (clamp N hN (idx (ix3 b r 0))) ch) := by
  obtain ⟨_, _, _, _, _, _, _, wf⟩ := d
  dsimp only at ho hc hb hs hm hv hl
  subst ho hc hb hs hm hv hl
  unfold Host.gather
  congr 1
  funext a
  apply Fin.ext
  fin_cases a
  · exact Nat.zero_add _
  · refine word_at idx _ (ix3 b r 0) (N - 1) ?_
    funext e
    fin_cases e <;> rfl
  · exact Nat.zero_add _

/-- Rows of a batch gathered by a table of words per batch. -/
theorem gather_table (hN : 0 < N) (d : GatherDims ⟨3, ![B, N, D]⟩ ⟨4, ![B, S, K, 1]⟩ ⟨4, ![B, S, K, D]⟩) (ho : d.offsetDims = [3])
    (hc : d.collapsedSliceDims = [1]) (hb : d.operandBatchingDims = [0]) (hs : d.startIndicesBatchingDims = [0])
    (hm : d.startIndexMap = [1]) (hv : d.indexVectorDim = 3) (hl : d.sliceSizes = ![1, 1, D])
    (x : (⟨3, ![B, N, D]⟩ : Shape).Idx → α) (idx : IVec ⟨4, ![B, S, K, 1]⟩ 32) (b : Fin B) (s : Fin S) (k : Fin K) (ch : Fin D) :
    Host.gather d x idx (ix4 b s k ch) = x (ix3 b (clamp N hN (idx (ix4 b s k 0))) ch) := by
  obtain ⟨_, _, _, _, _, _, _, wf⟩ := d
  dsimp only at ho hc hb hs hm hv hl
  subst ho hc hb hs hm hv hl
  unfold Host.gather
  congr 1
  funext a
  apply Fin.ext
  fin_cases a
  · exact Nat.zero_add _
  · refine word_at idx _ (ix4 b s k 0) (N - 1) ?_
    funext e
    fin_cases e <;> rfl
  · exact Nat.zero_add _

end Cert.Rows

end
-- ==== Proof.HostReads.lean ====
/- What the host lines between the four kernel launches leave, read entry by entry. -/
module

public import proofs.«01_k».proof.Proof.Gen.KernelIdeal.Frame
public import proofs.«01_k».proof.Proof.Rows
public import Idealize.ShloMosaic.Lib.StableHlo.RunRead
public import Idealize.ShloMosaic.Lib.Pointwise

@[expose] public section

set_option maxRecDepth 16384

noncomputable section

namespace Cert.KernelIdeal.Lines

open Cert.KernelIdeal Cert.KernelIdeal.Gen
open Idealize.ShloMosaic Idealize.ShloMosaic.TcCoe Idealize.SL.Sem Idealize.ShloMosaic.StableHlo

/-- The first cloud, transposed. -/
theorem cloud_apply (U : Valuation τ sig (Elt Ideal)) (b : Fin 4) (x : Fin 3) (i : Fin 8192) :
    (after hostOps0 U (Proc.devRef .tc main_v0) : FVec S4x3x8192 .f32 (F := Ideal)) (ix3 b x i)
      = (U (Proc.devRef .tc main_arg0) : FVec S4x8192x3 .f32 (F := Ideal)) (ix3 b i x) := by
  after_reads_simp
  pointwise []

/-- The queries, transposed. -/
theorem queries_apply (U : Valuation τ sig (Elt Ideal)) (b : Fin 4) (x : Fin 3) (i : Fin 2048) :
    (after hostOps0 U (Proc.devRef .tc main_v1) : FVec S4x3x2048 .f32 (F := Ideal)) (ix3 b x i)
      = (U (Proc.devRef .tc main_arg2) : FVec S4x2048x3 .f32 (F := Ideal)) (ix3 b i x) := by
  after_reads_simp
  pointwise []

/-- The table of rows of the first PointConv launch: 32 features, then coordinates, then zeros. -/
theorem table0_apply (U : Valuation τ sig (Elt Ideal)) (b : Fin 4) (p : Fin 8192) (ch : Fin 48) :
    (after hostOps2 U (Proc.devRef .tc main_v5) : FVec S4x8192x48 .f32 (F := Ideal)) (ix3 b p ch)
      = if h : ch.val < 32 then (U (Proc.devRef .tc main_arg1) : FVec S4x8192x32 .f32 (F := Ideal)) (ix3 b p ⟨ch.val, h⟩)
        else if h : ch.val - 32 < 3 then (U (Proc.devRef .tc main_arg0) : FVec S4x8192x3 .f32 (F := Ideal)) (ix3 b p ⟨ch.val - 32, h⟩)
        else (0 : EReal) := by
  after_reads_simp
  simp only [Matrix.cons_val_zero, Matrix.cons_val_one, Matrix.cons_val]
  after_reads_simp
  pointwise []

/-- The words at which the table of the first PointConv launch is read. -/
theorem words0_apply (U : Valuation τ sig (Elt Ideal)) (b : Fin 4) (s : Fin 2048) (k : Fin 16) (p : Fin 8192)
    (hp : (U (Proc.devRef .tc main_v2) : IVec S4x2048x16 32) (ix3 b s k) = BitVec.ofNat 32 p.val) :
    (after hostOps2 U (Proc.devRef .tc main_v12) : IVec S4x32768x1 32) (ix3 b ⟨s.val * 16 + k.val, by omega⟩ 0) = BitVec.ofNat 32 p.val := by
  have hk := p.isLt
  after_reads_simp
  generalize (U (Proc.devRef .tc main_v2) : IVec S4x2048x16 32) = v at hp
  rw [← Rows.wrap_eq p.val (by omega) 8192#32, ← hp]
  have e1 : (s.val * 16 + k.val) / 16 = s.val := by omega
  have e2 : (s.val * 16 + k.val) % 16 = k.val := by omega
  pointwise []
  simp only [e1, e2, Fin.eta]

/-- The rows the first PointConv launch is given: for each word of its search, that point's row of the table. -/
theorem rows0_apply (U : Valuation τ sig (Elt Ideal)) (b : Fin 4) (s : Fin 2048) (k : Fin 16) (p : Fin 8192)
    (hp : (U (Proc.devRef .tc main_v2) : IVec S4x2048x16 32) (ix3 b s k) = BitVec.ofNat 32 p.val) (ch : Fin 48) :
    (after hostOps2 U (Proc.devRef .tc main_v13) : FVec S4x32768x48 .f32 (F := Ideal)) (ix3 b ⟨s.val * 16 + k.val, by omega⟩ ch)
      = (after hostOps2 U (Proc.devRef .tc main_v5) : FVec S4x8192x48 .f32 (F := Ideal)) (ix3 b p ch) := by
  have e : after hostOps2 U (Proc.devRef .tc main_v13)
      = Host.gather gather_S4x8192x48_S4x32768x1_S4x32768x48_2_1_0_0_1_2_1148 (after hostOps2 U (Proc.devRef .tc main_v5) : FVec S4x8192x48 .f32 (F := Ideal))
          (after hostOps2 U (Proc.devRef .tc main_v12) : IVec S4x32768x1 32) := by
    after_reads_simp
  rw [e, Rows.gather_list (by decide) _ rfl rfl rfl rfl rfl rfl rfl, words0_apply U b s k p hp, Rows.clamp_eq _ _ (by decide)]

/-- The table of rows of the second PointConv launch: 16 narrowed features, then coordinates, then zeros. -/
theorem table1_apply (U : Valuation τ sig (Elt Ideal)) (b : Fin 4) (p : Fin 2048) (ch : Fin 32) :
    (after hostOps3 U (Proc.devRef .tc main_v23) : FVec S4x2048x32 .f32 (F := Ideal)) (ix3 b p ch)
      = if h : ch.val < 16 then (U (Proc.devRef .tc main_v21_1) : FVec S4x2048x16 .f32 (F := Ideal)) (ix3 b p ⟨ch.val, h⟩)
        else if h : ch.val - 16 < 3 then (U (Proc.devRef .tc main_arg2) : FVec S4x2048x3 .f32 (F := Ideal)) (ix3 b p ⟨ch.val - 16, h⟩)
        else (0 : EReal) := by
  after_reads_simp
  simp only [Matrix.cons_val_zero, Matrix.cons_val_one, Matrix.cons_val]
  after_reads_simp
  pointwise []

/-- The words at which the table of the second PointConv launch is read. -/
theorem words1_apply (U : Valuation τ sig (Elt Ideal)) (b : Fin 4) (s : Fin 2048) (k : Fin 16) (p : Fin 2048)
    (hp : (U (Proc.devRef .tc main_v3) : IVec S4x2048x16 32) (ix3 b s k) = BitVec.ofNat 32 p.val) :
    (after hostOps3 U (Proc.devRef .tc main_v30) : IVec S4x32768x1 32) (ix3 b ⟨s.val * 16 + k.val, by omega⟩ 0) = BitVec.ofNat 32 p.val := by
  have hk := p.isLt
  after_reads_simp
  generalize (U (Proc.devRef .tc main_v3) : IVec S4x2048x16 32) = v at hp
  rw [← Rows.wrap_eq p.val (by omega) 2048#32, ← hp]
  have e1 : (s.val * 16 + k.val) / 16 = s.val := by omega
  have e2 : (s.val * 16 + k.val) % 16 = k.val := by omega
  pointwise []
  simp only [e1, e2, Fin.eta]

/-- The rows the second PointConv launch is given: for each word of its search, that point's row of the table. -/
theorem rows1_apply (U : Valuation τ sig (Elt Ideal)) (b : Fin 4) (s : Fin 2048) (k : Fin 16) (p : Fin 2048)
    (hp : (U (Proc.devRef .tc main_v3) : IVec S4x2048x16 32) (ix3 b s k) = BitVec.ofNat 32 p.val) (ch : Fin 32) :
    (after hostOps3 U (Proc.devRef .tc main_v31) : FVec S4x32768x32 .f32 (F := Ideal)) (ix3 b ⟨s.val * 16 + k.val, by omega⟩ ch)
      = (after hostOps3 U (Proc.devRef .tc main_v23) : FVec S4x2048x32 .f32 (F := Ideal)) (ix3 b p ch) := by
  have e : after hostOps3 U (Proc.devRef .tc main_v31)
      = Host.gather gather_S4x2048x32_S4x32768x1_S4x32768x32_2_1_0_0_1_2_1132 (after hostOps3 U (Proc.devRef .tc main_v23) : FVec S4x2048x32 .f32 (F := Ideal))
          (after hostOps3 U (Proc.devRef .tc main_v30) : IVec S4x32768x1 32) := by
    after_reads_simp
  rw [e, Rows.gather_list (by decide) _ rfl rfl rfl rfl rfl rfl rfl, words1_apply U b s k p hp, Rows.clamp_eq _ _ (by decide)]

/-- The projection weights of the first PointConv launch, one table per weight. -/
theorem stacked0_apply (U : Valuation τ sig (Elt Ideal)) (a : Fin 4) (ch : Fin 35) (o : Fin 64) :
    (after hostOps2 U (Proc.devRef .tc main_v14) : FVec S4x35x64 .f32 (F := Ideal)) (ix3 a ch o)
      = (U (Proc.devRef .tc main_arg9) : FVec S140x64 .f32 (F := Ideal)) (ix2 ⟨a.val * 35 + ch.val, by omega⟩ o) := by
  after_reads_simp
  pointwise []

/-- What the first PointConv launch's tables are widened with. -/
theorem filler0_apply (U : Valuation τ sig (Elt Ideal)) :
    (after hostOps2 U (Proc.devRef .tc main_c_1) : IVec S_ 32) = constantI S_ 32 0#32 := by
  after_reads_simp

/-- The widened tables, from the tables. -/
theorem widened0_eq (U : Valuation τ sig (Elt Ideal)) :
    (after hostOps2_1 U (Proc.devRef .tc main_v15) : FVec S4x48x64 .f32 (F := Ideal))
      = pad (α := EReal) (s := S4x35x64) S4x48x64 ![0, 0, 0] ![0, 13, 0] ![0, 0, 0] (U (Proc.devRef .tc main_v14) : FVec S4x35x64 .f32 (F := Ideal))
          (sitofp (F := Ideal) .f32 (U (Proc.devRef .tc main_c_1) : IVec S_ 32)) pads_S4x35x64_S4x48x64_000_0130_000 h_S_ := by
  after_reads_simp
  rfl

/-- The widened tables laid under one another. -/
theorem laid0_apply (U : Valuation τ sig (Elt Ideal)) (a : Fin 4) (ch : Fin 48) (o : Fin 64) :
    (after hostOps2_2 U (Proc.devRef .tc main_v16) : FVec S192x64 .f32 (F := Ideal)) (ix2 ⟨a.val * 48 + ch.val, by omega⟩ o)
      = (U (Proc.devRef .tc main_v15) : FVec S4x48x64 .f32 (F := Ideal)) (ix3 a ch o) := by
  after_reads_simp
  pointwise []

/-- The projection weights of the first PointConv launch, widened from 35 to 48 rows per weight with zeros. -/
theorem weights0_apply (U : Valuation τ sig (Elt Ideal)) (a : Fin 4) (ch : Fin 48) (o : Fin 64) :
    (after hostOps2_2 (after hostOps2_1 (after hostOps2 U)) (Proc.devRef .tc main_v16) : FVec S192x64 .f32 (F := Ideal))
        (ix2 ⟨a.val * 48 + ch.val, by omega⟩ o)
      = if h : ch.val < 35 then (U (Proc.devRef .tc main_arg9) : FVec S140x64 .f32 (F := Ideal)) (ix2 ⟨a.val * 35 + ch.val, by omega⟩ o)
        else (0 : EReal) := by
  rw [laid0_apply, widened0_eq, filler0_apply]
  have h := fun ch => stacked0_apply U a ch o
  generalize (after hostOps2 U (Proc.devRef .tc main_v14) : FVec S4x35x64 .f32 (F := Ideal)) = v at h ⊢
  pointwise []
  split
  · exact h _
  · show (((0#32 : BitVec 32).toInt : ℝ) : EReal) = 0
    simp

/-- A bias of the first PointConv launch, as one row. -/
theorem bias17_apply (U : Valuation τ sig (Elt Ideal)) (i : Fin 16) :
    (after hostOps2_2 U (Proc.devRef .tc main_v17) : FVec S1x16 .f32 (F := Ideal)) (ix2 0 i)
      = (U (Proc.devRef .tc main_arg6) : FVec S16 .f32 (F := Ideal)) (ix1 i) := by
  after_reads_simp
  pointwise []

/-- A bias of the first PointConv launch, as one row. -/
theorem bias18_apply (U : Valuation τ sig (Elt Ideal)) (i : Fin 4) :
    (after hostOps2_2 U (Proc.devRef .tc main_v18) : FVec S1x4 .f32 (F := Ideal)) (ix2 0 i)
      = (U (Proc.devRef .tc main_arg8) : FVec S4 .f32 (F := Ideal)) (ix1 i) := by
  after_reads_simp
  pointwise []

/-- A bias of the first PointConv launch, as one row. -/
theorem bias19_apply (U : Valuation τ sig (Elt Ideal)) (i : Fin 64) :
    (after hostOps2_2 U (Proc.devRef .tc main_v19) : FVec S1x64 .f32 (F := Ideal)) (ix2 0 i)
      = (U (Proc.devRef .tc main_arg10) : FVec S64 .f32 (F := Ideal)) (ix1 i) := by
  after_reads_simp
  pointwise []

/-- A bias of the first PointConv launch, as one row. -/
theorem bias20_apply (U : Valuation τ sig (Elt Ideal)) (i : Fin 16) :
    (after hostOps2_2 U (Proc.devRef .tc main_v20) : FVec S1x16 .f32 (F := Ideal)) (ix2 0 i)
      = (U (Proc.devRef .tc main_arg12) : FVec S16 .f32 (F := Ideal)) (ix1 i) := by
  after_reads_simp
  pointwise []

/-- The projection weights of the second PointConv launch, one table per weight. -/
theorem stacked1_apply (U : Valuation τ sig (Elt Ideal)) (a : Fin 4) (ch : Fin 16) (o : Fin 64) :
    (after hostOps3 U (Proc.devRef .tc main_v32) : FVec S4x16x64 .f32 (F := Ideal)) (ix3 a ch o)
      = (U (Proc.devRef .tc main_arg17) : FVec S64x64 .f32 (F := Ideal)) (ix2 ⟨a.val * 16 + ch.val, by omega⟩ o) := by
  after_reads_simp
  pointwise []

/-- What the second PointConv launch's tables are widened with. -/
theorem filler1_apply (U : Valuation τ sig (Elt Ideal)) :
    (after hostOps3 U (Proc.devRef .tc main_c_5) : IVec S_ 32) = constantI S_ 32 0#32 := by
  after_reads_simp

/-- The widened tables, from the tables. -/
theorem widened1_eq (U : Valuation τ sig (Elt Ideal)) :
    (after hostOps3_1 U (Proc.devRef .tc main_v33) : FVec S4x32x64 .f32 (F := Ideal))
      = pad (α := EReal) (s := S4x16x64) S4x32x64 ![0, 0, 0] ![0, 16, 0] ![0, 0, 0] (U (Proc.devRef .tc main_v32) : FVec S4x16x64 .f32 (F := Ideal))
          (sitofp (F := Ideal) .f32 (U (Proc.devRef .tc main_c_5) : IVec S_ 32)) pads_S4x16x64_S4x32x64_000_0160_000 h_S_ := by
  after_reads_simp
  rfl

/-- The widened tables laid under one another. -/
theorem laid1_apply (U : Valuation τ sig (Elt Ideal)) (a : Fin 4) (ch : Fin 32) (o : Fin 64) :
    (after hostOps3_2 U (Proc.devRef .tc main_v34) : FVec S128x64 .f32 (F := Ideal)) (ix2 ⟨a.val * 32 + ch.val, by omega⟩ o)
      = (U (Proc.devRef .tc main_v33) : FVec S4x32x64 .f32 (F := Ideal)) (ix3 a ch o) := by
  after_reads_simp
  pointwise []

/-- The projection weights of the second PointConv launch, widened from 16 to 32 rows per weight with zeros. -/
theorem weights1_apply (U : Valuation τ sig (Elt Ideal)) (a : Fin 4) (ch : Fin 32) (o : Fin 64) :
    (after hostOps3_2 (after hostOps3_1 (after hostOps3 U)) (Proc.devRef .tc main_v34) : FVec S128x64 .f32 (F := Ideal))
        (ix2 ⟨a.val * 32 + ch.val, by omega⟩ o)
      = if h : ch.val < 16 then (U (Proc.devRef .tc main_arg17) : FVec S64x64 .f32 (F := Ideal)) (ix2 ⟨a.val * 16 + ch.val, by omega⟩ o)
        else (0 : EReal) := by
  rw [laid1_apply, widened1_eq, filler1_apply]
  have h := fun ch => stacked1_apply U a ch o
  generalize (after hostOps3 U (Proc.devRef .tc main_v32) : FVec S4x16x64 .f32 (F := Ideal)) = v at h ⊢
  pointwise []
  split
  · exact h _
  · show (((0#32 : BitVec 32).toInt : ℝ) : EReal) = 0
    simp

/-- A bias of the second PointConv launch, as one row. -/
theorem bias35_apply (U : Valuation τ sig (Elt Ideal)) (i : Fin 16) :
    (after hostOps3_2 U (Proc.devRef .tc main_v35) : FVec S1x16 .f32 (F := Ideal)) (ix2 0 i)
      = (U (Proc.devRef .tc main_arg14) : FVec S16 .f32 (F := Ideal)) (ix1 i) := by
  after_reads_simp
  pointwise []

/-- A bias of the second PointConv launch, as one row. -/
theorem bias36_apply (U : Valuation τ sig (Elt Ideal)) (i : Fin 4) :
    (after hostOps3_2 U (Proc.devRef .tc main_v36) : FVec S1x4 .f32 (F := Ideal)) (ix2 0 i)
      = (U (Proc.devRef .tc main_arg16) : FVec S4 .f32 (F := Ideal)) (ix1 i) := by
  after_reads_simp
  pointwise []

/-- A bias of the second PointConv launch, as one row. -/
theorem bias37_apply (U : Valuation τ sig (Elt Ideal)) (i : Fin 64) :
    (after hostOps3_2 U (Proc.devRef .tc main_v37) : FVec S1x64 .f32 (F := Ideal)) (ix2 0 i)
      = (U (Proc.devRef .tc main_arg18) : FVec S64 .f32 (F := Ideal)) (ix1 i) := by
  after_reads_simp
  pointwise []

end Cert.KernelIdeal.Lines
-- ==== Proof.PointConv.lean ====
/- The arithmetic of one PointConv layer at one query: the weight net on the relative positions of the sixteen neighbours, the
   moments of the neighbours' channels against the weights, and the projection of the moments. -/
module

public import Idealize.ShloMosaic.Lib.Pointwise

@[expose] public section

noncomputable section

namespace Cert.PointConv

/-- The weight net on one relative position: a hidden layer of sixteen with ReLU, then four outputs. -/
def weight (W1 : Fin 3 → Fin 16 → EReal) (b1 : Fin 16 → EReal) (W2 : Fin 16 → Fin 4 → EReal) (b2 : Fin 4 → EReal)
    (rel : Fin 3 → EReal) (a : Fin 4) : EReal :=
  ∑ h, max (∑ c, rel c * W1 c h + b1 h) 0 * W2 h a + b2 a

/-- Moment `a` of channel `ch`: the sum over the neighbours of weight times channel. -/
def moment {n : Nat} (w : Fin 16 → Fin 4 → EReal) (g : Fin 16 → Fin n → EReal) (a : Fin 4) (ch : Fin n) : EReal :=
  ∑ k, w k a * g k ch

/-- The projection of the moments onto one output, with its bias. -/
def project {n : Nat} (m W : Fin 4 → Fin n → EReal) (b : EReal) : EReal := b + ∑ a, ∑ ch, m a ch * W a ch

/-- The projection as the kernel sums it: the bias, then one weight's channels after another. -/
theorem project_eq_left {n : Nat} (m W : Fin 4 → Fin n → EReal) (b : EReal) :
    project m W b = b + ∑ ch, m 0 ch * W 0 ch + ∑ ch, m 1 ch * W 1 ch + ∑ ch, m 2 ch * W 2 ch + ∑ ch, m 3 ch * W 3 ch := by
  simp only [project, Fin.sum_univ_four, add_assoc]

/-- A sum whose terms from `n` on are zero is the sum of the first `n`. -/
theorem sum_eq_of_tail {n N : Nat} (h : n ≤ N) (f : Fin N → EReal) (hf : ∀ i : Fin N, n ≤ i.val → f i = 0) :
    ∑ i, f i = ∑ i : Fin n, f ⟨i.val, i.isLt.trans_le h⟩ := by
  obtain ⟨k, rfl⟩ := Nat.exists_eq_add_of_le h
  rw [Fin.sum_univ_add, Finset.sum_eq_zero (s := Finset.univ) (f := fun i : Fin k => f (Fin.natAdd n i))
    (fun i _ => hf _ (Nat.le_add_right _ _)), add_zero]
  rfl

/-- Channels whose projection weights are zero leave the projection as it is. -/
theorem project_eq_of_tail {n N : Nat} (h : n ≤ N) (m W : Fin 4 → Fin N → EReal) (m' W' : Fin 4 → Fin n → EReal) (b : EReal)
    (hm : ∀ a (ch : Fin n), m a ⟨ch.val, ch.isLt.trans_le h⟩ = m' a ch)
    (hW : ∀ a (ch : Fin n), W a ⟨ch.val, ch.isLt.trans_le h⟩ = W' a ch)
    (hz : ∀ a (ch : Fin N), n ≤ ch.val → W a ch = 0) : project m W b = project m' W' b := by
  unfold project
  congr 1
  refine Finset.sum_congr rfl fun a _ => ?_
  rw [sum_eq_of_tail h _ fun ch hc => by rw [hz a ch hc, mul_zero]]
  exact Finset.sum_congr rfl fun ch _ => by rw [hm, hW]

/-- The projection as the reference sums it: one sum over weights and channels together, then the bias. -/
theorem project_eq_flat {n N : Nat} (hN : N = 4 * n) (m W : Fin 4 → Fin n → EReal) (b : EReal) (f : Fin N → EReal)
    (hf : ∀ (a : Fin 4) (ch : Fin n) (h : a.val * n + ch.val < N), f ⟨a.val * n + ch.val, h⟩ = m a ch * W a ch) :
    ∑ i, f i + b = project m W b := by
  subst hN
  unfold project
  rw [add_comm, ← Equiv.sum_comp finProdFinEquiv, Fintype.sum_prod_type]
  congr 1
  refine Finset.sum_congr rfl fun a _ => Finset.sum_congr rfl fun ch _ => ?_
  rw [← hf a ch (by have := (finProdFinEquiv (a, ch)).isLt; simp only [finProdFinEquiv_apply_val] at this; linarith [Nat.mul_comm a.val n])]
  congr 1
  apply Fin.ext
  simp only [finProdFinEquiv_apply_val]
  linarith [Nat.mul_comm a.val n]

end Cert.PointConv

end
-- ==== Proof.Dense1.lean ====
/- The first PointConv kernel: what a block of 256 queries is left holding, and the two arrays the whole launch leaves. -/
module

public import proofs.«01_k».proof.Proof.Gen.KernelIdeal.Frame
public import proofs.«01_k».proof.Proof.PointConv
public import Idealize.ShloMosaic.Lib.Pipeline.ValueKit

@[expose] public section

set_option maxRecDepth 16384

noncomputable section

namespace Cert.KernelIdeal.Dense1

open Cert.KernelIdeal Cert.KernelIdeal.Gen Cert.PointConv
open Idealize.ShloMosaic Idealize.ShloMosaic.TcCoe Idealize.SL.Sem
open Idealize.ShloMosaic.Pipeline (Dat)

/-- A gathered row with its three coordinates, at 32 to 34, taken relative to the query. -/
def shifted (g : Fin 48 → EReal) (q : Fin 3 → EReal) (ch : Fin 48) : EReal :=
  if ch.val < 32 then g ch else if h : ch.val - 32 < 3 then g ⟨32 + (ch.val - 32), by omega⟩ - q ⟨ch.val - 32, h⟩
    else g ⟨35 + (ch.val - 32 - 3), by omega⟩

/-- The moments of one query, from the sixteen gathered rows and the query's coordinates. -/
def moments (g : Fin 16 → Fin 48 → EReal) (q : Fin 3 → EReal) (W1 : Fin 3 → Fin 16 → EReal) (b1 : Fin 16 → EReal)
    (W2 : Fin 16 → Fin 4 → EReal) (b2 : Fin 4 → EReal) : Fin 4 → Fin 48 → EReal :=
  moment (fun k => weight W1 b1 W2 b2 fun c => g k ⟨32 + c.val, by omega⟩ - q c) fun k => shifted (g k) q

/-- One feature of one query. -/
def feature (g : Fin 16 → Fin 48 → EReal) (q : Fin 3 → EReal) (W1 : Fin 3 → Fin 16 → EReal) (b1 : Fin 16 → EReal)
    (W2 : Fin 16 → Fin 4 → EReal) (b2 : Fin 4 → EReal) (W : Fin 192 → EReal) (b : EReal) : EReal :=
  max (project (moments g q W1 b1 W2 b2) (fun a ch => W ⟨a.val * 48 + ch.val, by omega⟩) b) 0

/-- The moments of a block, read at a query, a weight and a channel. -/
theorem moments_apply (x0 : Vec Ideal S1x4096x48 .f32) (x1 : Vec Ideal S1x256x3 .f32) (x2 : Vec Ideal S3x16 .f32)
    (x3 : Vec Ideal S1x16 .f32) (x4 : Vec Ideal S16x4 .f32) (x5 : Vec Ideal S1x4 .f32) (r : Fin 256) (a : Fin 4) (ch : Fin 48) :
    k2_pay3 x0 x1 x2 x3 x4 x5 (ix3 r a ch)
      = moments (fun k ch => x0 (ix3 0 ⟨r.val * 16 + k.val, by omega⟩ ch)) (fun c => x1 (ix3 0 r c)) (fun c h => x2 (ix2 c h))
          (fun h => x3 (ix2 0 h)) (fun h a => x4 (ix2 h a)) (fun a => x5 (ix2 0 a)) a ch := by
  pointwise [k2_pay3]
  rfl

/-- The features of a block, from its moments. -/
theorem project_apply (m : FVec Ideal S256x4x48 .f32) (x6 : Vec Ideal S192x64 .f32) (x7 : Vec Ideal S1x64 .f32)
    (r : Fin 256) (o : Fin 64) :
    k2_pay5 m (k2_pay4 x7) x6 x6 x6 x6 (ix2 r o)
      = max (project (fun a ch => m (ix3 r a ch)) (fun a ch => x6 (ix2 ⟨a.val * 48 + ch.val, by omega⟩ o)) (x7 (ix2 0 o))) 0 := by
  rw [project_eq_left]
  pointwise [k2_pay5, k2_pay4]

variable (x0 : Vec Ideal S1x4096x48 .f32) (x1 : Vec Ideal S1x256x3 .f32) (x2 : Vec Ideal S3x16 .f32)
  (x3 : Vec Ideal S1x16 .f32) (x4 : Vec Ideal S16x4 .f32) (x5 : Vec Ideal S1x4 .f32) (x6 : Vec Ideal S192x64 .f32)
  (x7 : Vec Ideal S1x64 .f32) (x8 : Vec Ideal S64x16 .f32) (x9 : Vec Ideal S1x16 .f32)

/-- A feature of a query of a block, from the block's arrays. -/
abbrev blockFeature (r : Fin 256) (o : Fin 64) : EReal :=
  feature (fun k ch => x0 (ix3 0 ⟨r.val * 16 + k.val, by omega⟩ ch)) (fun c => x1 (ix3 0 r c)) (fun c h => x2 (ix2 c h))
    (fun h => x3 (ix2 0 h)) (fun h a => x4 (ix2 h a)) (fun a => x5 (ix2 0 a)) (fun i => x6 (ix2 i o)) (x7 (ix2 0 o))

/-- The features, read at a query and a channel. -/
theorem feature_apply (r : Fin 256) (o : Fin 64) :
    k2_pay5 (k2_pay3 x0 x1 x2 x3 x4 x5) (k2_pay4 x7) x6 x6 x6 x6 (ix2 r o) = blockFeature x0 x1 x2 x3 x4 x5 x6 x7 r o := by
  rw [project_apply]
  simp only [moments_apply]
  rfl

/-- The block of features. -/
theorem out10_apply (r : Fin 256) (o : Fin 64) :
    out2_10 x0 x1 x2 x3 x4 x5 x6 x7 x8 x9 (ix3 0 r o) = blockFeature x0 x1 x2 x3 x4 x5 x6 x7 r o := by
  unfold_out out2_10
  frame_out
  rw [← feature_apply]
  pointwise [k2_pay1]

/-- The block of down-projected features. -/
theorem out11_apply (r : Fin 256) (o : Fin 16) :
    out2_11 x0 x1 x2 x3 x4 x5 x6 x7 x8 x9 (ix3 0 r o)
      = max (∑ x, blockFeature x0 x1 x2 x3 x4 x5 x6 x7 r x * x8 (ix2 x o) + x9 (ix2 0 o)) 0 := by
  unfold_out out2_11
  frame_out
  simp only [← feature_apply]
  pointwise [k2_pay2, k2_pay6]

/-- Where each window's block lies at each grid point: batch, then block of queries; a weight is one block. -/
theorem idx0 : ∀ t : Fin cfg2.N, win2_0.index t = ![(grid2.coords t 0).val, (grid2.coords t 1).val, 0] :=
  (by decide +kernel : ∀ t : Fin grid2.N, _)
theorem idx1 : ∀ t : Fin cfg2.N, win2_1.index t = ![(grid2.coords t 0).val, (grid2.coords t 1).val, 0] :=
  (by decide +kernel : ∀ t : Fin grid2.N, _)
theorem idx2 : ∀ t : Fin cfg2.N, win2_2.index t = ![0, 0] := (by decide +kernel : ∀ t : Fin grid2.N, _)
theorem idx3 : ∀ t : Fin cfg2.N, win2_3.index t = ![0, 0] := (by decide +kernel : ∀ t : Fin grid2.N, _)
theorem idx4 : ∀ t : Fin cfg2.N, win2_4.index t = ![0, 0] := (by decide +kernel : ∀ t : Fin grid2.N, _)
theorem idx5 : ∀ t : Fin cfg2.N, win2_5.index t = ![0, 0] := (by decide +kernel : ∀ t : Fin grid2.N, _)
theorem idx6 : ∀ t : Fin cfg2.N, win2_6.index t = ![0, 0] := (by decide +kernel : ∀ t : Fin grid2.N, _)
theorem idx7 : ∀ t : Fin cfg2.N, win2_7.index t = ![0, 0] := (by decide +kernel : ∀ t : Fin grid2.N, _)
theorem idx8 : ∀ t : Fin cfg2.N, win2_8.index t = ![0, 0] := (by decide +kernel : ∀ t : Fin grid2.N, _)
theorem idx9 : ∀ t : Fin cfg2.N, win2_9.index t = ![0, 0] := (by decide +kernel : ∀ t : Fin grid2.N, _)
theorem idx10 : ∀ t : Fin cfg2.N, win2_10.index t = ![(grid2.coords t 0).val, (grid2.coords t 1).val, 0] :=
  (by decide +kernel : ∀ t : Fin grid2.N, _)
theorem idx11 : ∀ t : Fin cfg2.N, win2_11.index t = ![(grid2.coords t 0).val, (grid2.coords t 1).val, 0] :=
  (by decide +kernel : ∀ t : Fin grid2.N, _)

/-- The batch of a grid point, and the query at row `r` of its block. -/
def batch (t : Fin grid2.N) : Fin 4 := ⟨(grid2.coords t 0).val, (grid2.coords t 0).isLt⟩
def query (t : Fin grid2.N) (r : Fin 256) : Fin 2048 :=
  ⟨(grid2.coords t 1).val * 256 + r.val, by have : (grid2.coords t 1).val < 8 := (grid2.coords t 1).isLt; omega⟩

variable (V : (c : Dev nD) → (b : Ref sig .tc) → Buf (Elt Ideal) ((c : Thread nD τ).loc b)) (c : Dev nD)

/-- A block of gathered rows is the rows of its queries, sixteen apiece. -/
theorem rows_apply (t : Fin grid2.N) (r : Fin 256) (k : Fin 16) (ch : Fin 48) :
    iblk2 V c 0 t (ix3 0 ⟨r.val * 16 + k.val, by omega⟩ ch)
      = V c main_v13 (ix3 (batch t) ⟨(query t r).val * 16 + k.val, by omega⟩ ch) := by
  blk_ext! [iblk2, idx0 t, batch, query]

/-- A block of queries. -/
theorem queries_apply (t : Fin grid2.N) (r : Fin 256) (x : Fin 3) :
    iblk2 V c 1 t (ix3 0 r x) = V c main_arg2 (ix3 (batch t) (query t r) x) := by
  blk_ext! [iblk2, idx1 t, batch, query]

/-- The block of each weight and bias is the whole of it. -/
theorem whole2 (t : Fin grid2.N) : iblk2 V c 2 t = V c main_arg5 := by blk_ext! [iblk2, idx2 t]
theorem whole3 (t : Fin grid2.N) : iblk2 V c 3 t = V c main_v17 := by blk_ext! [iblk2, idx3 t]
theorem whole4 (t : Fin grid2.N) : iblk2 V c 4 t = V c main_arg7 := by blk_ext! [iblk2, idx4 t]
theorem whole5 (t : Fin grid2.N) : iblk2 V c 5 t = V c main_v18 := by blk_ext! [iblk2, idx5 t]
theorem whole6 (t : Fin grid2.N) : iblk2 V c 6 t = V c main_v16 := by blk_ext! [iblk2, idx6 t]
theorem whole7 (t : Fin grid2.N) : iblk2 V c 7 t = V c main_v19 := by blk_ext! [iblk2, idx7 t]
theorem whole8 (t : Fin grid2.N) : iblk2 V c 8 t = V c main_arg11 := by blk_ext! [iblk2, idx8 t]
theorem whole9 (t : Fin grid2.N) : iblk2 V c 9 t = V c main_v20 := by blk_ext! [iblk2, idx9 t]

/-- A feature of a query of a batch, from the arrays the launch finds. -/
def arrayFeature (b : Fin 4) (s : Fin 2048) (o : Fin 64) : EReal :=
  feature (fun k ch => V c main_v13 (ix3 b ⟨s.val * 16 + k.val, by omega⟩ ch)) (fun x => V c main_arg2 (ix3 b s x))
    (fun x h => V c main_arg5 (ix2 x h)) (fun h => V c main_v17 (ix2 0 h)) (fun h a => V c main_arg7 (ix2 h a))
    (fun a => V c main_v18 (ix2 0 a)) (fun i => V c main_v16 (ix2 i o)) (V c main_v19 (ix2 0 o))

/-- A block's feature is its query's. -/
theorem blockFeature_eq (t : Fin grid2.N) (r : Fin 256) (o : Fin 64) :
    blockFeature (iblk2 V c 0 t) (iblk2 V c 1 t) (iblk2 V c 2 t) (iblk2 V c 3 t) (iblk2 V c 4 t) (iblk2 V c 5 t)
      (iblk2 V c 6 t) (iblk2 V c 7 t) r o = arrayFeature V c (batch t) (query t r) o := by
  unfold blockFeature arrayFeature
  rw [whole2, whole3, whole4, whole5, whole6, whole7]
  simp only [rows_apply, queries_apply]

/-- The array of features the launch leaves. -/
theorem features_eq (G : FVec Ideal S4x2048x64 .f32) (hG : ∀ b s o, G (ix3 b s o) = arrayFeature V c b s o) :
    (dat2 V c).arrAt 10 cfg2.N = G := by
  refine (dat2 V c).arrAt_eq_of_covers 10 G (by decide +kernel) fun t hf y => ?_
  blk_simp
  rw [after2_10]
  idx_vars y
  have e : ((View.whole main_v21_0).slice (win2_10.rect t)).emb (ix3 y0 y1 y2) = ix3 (batch t) (query t y1) y2 := by
    blk_ext [idx10 t, batch, query]
  rw [e, hG]
  obtain rfl : y0 = 0 := Subsingleton.elim _ _
  exact (out10_apply _ _ _ _ _ _ _ _ _ _ y1 y2).trans (blockFeature_eq V c t y1 y2)

/-- The array of down-projected features the launch leaves. -/
theorem down_eq (G : FVec Ideal S4x2048x16 .f32)
    (hG : ∀ b s o, G (ix3 b s o)
      = max (∑ x, arrayFeature V c b s x * V c main_arg11 (ix2 x o) + V c main_v20 (ix2 0 o)) 0) :
    (dat2 V c).arrAt 11 cfg2.N = G := by
  refine (dat2 V c).arrAt_eq_of_covers 11 G (by decide +kernel) fun t hf y => ?_
  blk_simp
  rw [after2_11]
  idx_vars y
  have e : ((View.whole main_v21_1).slice (win2_11.rect t)).emb (ix3 y0 y1 y2) = ix3 (batch t) (query t y1) y2 := by
    blk_ext [idx11 t, batch, query]
  rw [e, hG]
  obtain rfl : y0 = 0 := Subsingleton.elim _ _
  refine (out11_apply _ _ _ _ _ _ _ _ _ _ y1 y2).trans ?_
  simp only [blockFeature_eq, whole8, whole9]

end Cert.KernelIdeal.Dense1

end
-- ==== Proof.Dense2.lean ====
/- The second PointConv kernel: what a block of 256 queries is left holding, and the array the whole launch leaves. -/
module

public import proofs.«01_k».proof.Proof.Gen.KernelIdeal.Frame
public import proofs.«01_k».proof.Proof.PointConv
public import Idealize.ShloMosaic.Lib.Pipeline.ValueKit

@[expose] public section

set_option maxRecDepth 16384

noncomputable section

namespace Cert.KernelIdeal.Dense2

open Cert.KernelIdeal Cert.KernelIdeal.Gen Cert.PointConv
open Idealize.ShloMosaic Idealize.ShloMosaic.TcCoe Idealize.SL.Sem
open Idealize.ShloMosaic.Pipeline (Dat)

/-- The moments of one query, from the sixteen gathered rows, their coordinates at 16 to 18, and the query's coordinates. -/
def moments (g : Fin 16 → Fin 32 → EReal) (q : Fin 3 → EReal) (W1 : Fin 3 → Fin 16 → EReal) (b1 : Fin 16 → EReal)
    (W2 : Fin 16 → Fin 4 → EReal) (b2 : Fin 4 → EReal) : Fin 4 → Fin 32 → EReal :=
  moment (fun k => weight W1 b1 W2 b2 fun c => g k ⟨16 + c.val, by omega⟩ - q c) g

/-- One result of one query: its feature plus the projection, with ReLU. -/
def result (g : Fin 16 → Fin 32 → EReal) (q : Fin 3 → EReal) (W1 : Fin 3 → Fin 16 → EReal) (b1 : Fin 16 → EReal)
    (W2 : Fin 16 → Fin 4 → EReal) (b2 : Fin 4 → EReal) (W : Fin 128 → EReal) (b f : EReal) : EReal :=
  max (f + project (moments g q W1 b1 W2 b2) (fun a ch => W ⟨a.val * 32 + ch.val, by omega⟩) b) 0

/-- The moments of a block, read at a query, a weight and a channel. -/
theorem moments_apply (x0 : Vec Ideal S1x4096x32 .f32) (x1 : Vec Ideal S1x256x3 .f32) (x3 : Vec Ideal S3x16 .f32)
    (x4 : Vec Ideal S1x16 .f32) (x5 : Vec Ideal S16x4 .f32) (x6 : Vec Ideal S1x4 .f32) (r : Fin 256) (a : Fin 4) (ch : Fin 32) :
    k3_pay2 x0 x1 x3 x4 x5 x6 (ix3 r a ch)
      = moments (fun k ch => x0 (ix3 0 ⟨r.val * 16 + k.val, by omega⟩ ch)) (fun c => x1 (ix3 0 r c)) (fun c h => x3 (ix2 c h))
          (fun h => x4 (ix2 0 h)) (fun h a => x5 (ix2 h a)) (fun a => x6 (ix2 0 a)) a ch := by
  pointwise [k3_pay2]
  rfl

/-- The results of a block, from its moments and features. -/
theorem project_apply (m : FVec Ideal S256x4x32 .f32) (m0 : FVec Ideal S256x32 .f32) (hm : ∀ r ch, m0 (ix2 r ch) = m (ix3 r 0 ch))
    (x2 : Vec Ideal S1x256x64 .f32) (x7 : Vec Ideal S128x64 .f32) (x8 : Vec Ideal S1x64 .f32) (r : Fin 256) (o : Fin 64) :
    k3_pay1 m (k3_pay3 x8) m0 x7 x7 x7 x7 x2 (ix3 0 r o)
      = max (x2 (ix3 0 r o) + project (fun a ch => m (ix3 r a ch)) (fun a ch => x7 (ix2 ⟨a.val * 32 + ch.val, by omega⟩ o))
          (x8 (ix2 0 o))) 0 := by
  rw [project_eq_left]
  pointwise [k3_pay1, k3_pay3]
  simp only [hm]

variable (x0 : Vec Ideal S1x4096x32 .f32) (x1 : Vec Ideal S1x256x3 .f32) (x2 : Vec Ideal S1x256x64 .f32)
  (x3 : Vec Ideal S3x16 .f32) (x4 : Vec Ideal S1x16 .f32) (x5 : Vec Ideal S16x4 .f32) (x6 : Vec Ideal S1x4 .f32)
  (x7 : Vec Ideal S128x64 .f32) (x8 : Vec Ideal S1x64 .f32)

/-- A result of a query of a block, from the block's arrays. -/
abbrev blockResult (r : Fin 256) (o : Fin 64) : EReal :=
  result (fun k ch => x0 (ix3 0 ⟨r.val * 16 + k.val, by omega⟩ ch)) (fun c => x1 (ix3 0 r c)) (fun c h => x3 (ix2 c h))
    (fun h => x4 (ix2 0 h)) (fun h a => x5 (ix2 h a)) (fun a => x6 (ix2 0 a)) (fun i => x7 (ix2 i o)) (x8 (ix2 0 o))
    (x2 (ix3 0 r o))

/-- The block of results. -/
theorem out_apply (r : Fin 256) (o : Fin 64) :
    out3_9 x0 x1 x2 x3 x4 x5 x6 x7 x8 (ix3 0 r o) = blockResult x0 x1 x2 x3 x4 x5 x6 x7 x8 r o := by
  frame_out
  refine (project_apply _ _ (fun r ch => ?_) x2 x7 x8 r o).trans ?_
  · pointwise [k3_pay4]
  · simp only [moments_apply]
    rfl

/-- Where each window's block lies at each grid point: batch, then block of queries; a weight is one block. -/
theorem idx0 : ∀ t : Fin cfg3.N, win3_0.index t = ![(grid3.coords t 0).val, (grid3.coords t 1).val, 0] :=
  (by decide +kernel : ∀ t : Fin grid3.N, _)
theorem idx1 : ∀ t : Fin cfg3.N, win3_1.index t = ![(grid3.coords t 0).val, (grid3.coords t 1).val, 0] :=
  (by decide +kernel : ∀ t : Fin grid3.N, _)
theorem idx2 : ∀ t : Fin cfg3.N, win3_2.index t = ![(grid3.coords t 0).val, (grid3.coords t 1).val, 0] :=
  (by decide +kernel : ∀ t : Fin grid3.N, _)
theorem idx3 : ∀ t : Fin cfg3.N, win3_3.index t = ![0, 0] := (by decide +kernel : ∀ t : Fin grid3.N, _)
theorem idx4 : ∀ t : Fin cfg3.N, win3_4.index t = ![0, 0] := (by decide +kernel : ∀ t : Fin grid3.N, _)
theorem idx5 : ∀ t : Fin cfg3.N, win3_5.index t = ![0, 0] := (by decide +kernel : ∀ t : Fin grid3.N, _)
theorem idx6 : ∀ t : Fin cfg3.N, win3_6.index t = ![0, 0] := (by decide +kernel : ∀ t : Fin grid3.N, _)
theorem idx7 : ∀ t : Fin cfg3.N, win3_7.index t = ![0, 0] := (by decide +kernel : ∀ t : Fin grid3.N, _)
theorem idx8 : ∀ t : Fin cfg3.N, win3_8.index t = ![0, 0] := (by decide +kernel : ∀ t : Fin grid3.N, _)
theorem idx9 : ∀ t : Fin cfg3.N, win3_9.index t = ![(grid3.coords t 0).val, (grid3.coords t 1).val, 0] :=
  (by decide +kernel : ∀ t : Fin grid3.N, _)

/-- The batch of a grid point, and the query at row `r` of its block. -/
def batch (t : Fin grid3.N) : Fin 4 := ⟨(grid3.coords t 0).val, (grid3.coords t 0).isLt⟩
def query (t : Fin grid3.N) (r : Fin 256) : Fin 2048 :=
  ⟨(grid3.coords t 1).val * 256 + r.val, by have : (grid3.coords t 1).val < 8 := (grid3.coords t 1).isLt; omega⟩

variable (V : (c : Dev nD) → (b : Ref sig .tc) → Buf (Elt Ideal) ((c : Thread nD τ).loc b)) (c : Dev nD)

/-- A block of gathered rows is the rows of its queries, sixteen apiece. -/
theorem rows_apply (t : Fin grid3.N) (r : Fin 256) (k : Fin 16) (ch : Fin 32) :
    iblk3 V c 0 t (ix3 0 ⟨r.val * 16 + k.val, by omega⟩ ch)
      = V c main_v31 (ix3 (batch t) ⟨(query t r).val * 16 + k.val, by omega⟩ ch) := by
  blk_ext! [iblk3, idx0 t, batch, query]

/-- A block of queries, and a block of their features. -/
theorem queries_apply (t : Fin grid3.N) (r : Fin 256) (x : Fin 3) :
    iblk3 V c 1 t (ix3 0 r x) = V c main_arg2 (ix3 (batch t) (query t r) x) := by
  blk_ext! [iblk3, idx1 t, batch, query]
theorem features_apply (t : Fin grid3.N) (r : Fin 256) (o : Fin 64) :
    iblk3 V c 2 t (ix3 0 r o) = V c main_v21_0 (ix3 (batch t) (query t r) o) := by
  blk_ext! [iblk3, idx2 t, batch, query]

/-- The block of each weight and bias is the whole of it. -/
theorem whole3 (t : Fin grid3.N) : iblk3 V c 3 t = V c main_arg13 := by blk_ext! [iblk3, idx3 t]
theorem whole4 (t : Fin grid3.N) : iblk3 V c 4 t = V c main_v35 := by blk_ext! [iblk3, idx4 t]
theorem whole5 (t : Fin grid3.N) : iblk3 V c 5 t = V c main_arg15 := by blk_ext! [iblk3, idx5 t]
theorem whole6 (t : Fin grid3.N) : iblk3 V c 6 t = V c main_v36 := by blk_ext! [iblk3, idx6 t]
theorem whole7 (t : Fin grid3.N) : iblk3 V c 7 t = V c main_v34 := by blk_ext! [iblk3, idx7 t]
theorem whole8 (t : Fin grid3.N) : iblk3 V c 8 t = V c main_v37 := by blk_ext! [iblk3, idx8 t]

/-- A result of a query of a batch, from the arrays the launch finds. -/
def arrayResult (b : Fin 4) (s : Fin 2048) (o : Fin 64) : EReal :=
  result (fun k ch => V c main_v31 (ix3 b ⟨s.val * 16 + k.val, by omega⟩ ch)) (fun x => V c main_arg2 (ix3 b s x))
    (fun x h => V c main_arg13 (ix2 x h)) (fun h => V c main_v35 (ix2 0 h)) (fun h a => V c main_arg15 (ix2 h a))
    (fun a => V c main_v36 (ix2 0 a)) (fun i => V c main_v34 (ix2 i o)) (V c main_v37 (ix2 0 o)) (V c main_v21_0 (ix3 b s o))

/-- A block's result is its query's. -/
theorem blockResult_eq (t : Fin grid3.N) (r : Fin 256) (o : Fin 64) :
    blockResult (iblk3 V c 0 t) (iblk3 V c 1 t) (iblk3 V c 2 t) (iblk3 V c 3 t) (iblk3 V c 4 t) (iblk3 V c 5 t)
      (iblk3 V c 6 t) (iblk3 V c 7 t) (iblk3 V c 8 t) r o = arrayResult V c (batch t) (query t r) o := by
  unfold blockResult arrayResult
  rw [whole3, whole4, whole5, whole6, whole7, whole8]
  simp only [rows_apply, queries_apply, features_apply]

/-- The array the launch leaves. -/
theorem array_eq (G : FVec Ideal S4x2048x64 .f32) (hG : ∀ b s o, G (ix3 b s o) = arrayResult V c b s o) :
    (dat3 V c).arrAt 9 cfg3.N = G := by
  refine (dat3 V c).arrAt_eq_of_covers 9 G (by decide +kernel) fun t hf y => ?_
  blk_simp
  rw [after3_9]
  idx_vars y
  have e : ((View.whole main_v38).slice (win3_9.rect t)).emb (ix3 y0 y1 y2) = ix3 (batch t) (query t y1) y2 := by
    blk_ext [idx9 t, batch, query]
  rw [e, hG]
  obtain rfl : y0 = 0 := Subsingleton.elim _ _
  exact (out_apply _ _ _ _ _ _ _ _ _ y1 y2).trans (blockResult_eq V c t y1 y2)

end Cert.KernelIdeal.Dense2

end
-- ==== Proof.Network.lean ====
/- The network's two layers as plain functions of one query: what both programs are shown to compute. -/
module

public import proofs.«01_k».proof.Proof.PointConv

@[expose] public section

noncomputable section

namespace Cert.Network

open Cert.PointConv

/-- The neighbours' coordinates relative to the query. -/
def relative {N : Nat} (pts : Fin N → Fin 3 → EReal) (q : Fin 3 → EReal) (near : Fin 16 → Fin N) (k : Fin 16) (c : Fin 3) : EReal :=
  pts (near k) c - q c

/-- The first layer's channels: a neighbour's 32 features, then its relative coordinates. -/
def channels {N : Nat} (pts : Fin N → Fin 3 → EReal) (feats : Fin N → Fin 32 → EReal) (q : Fin 3 → EReal) (near : Fin 16 → Fin N)
    (k : Fin 16) (ch : Fin 35) : EReal :=
  if h : ch.val < 32 then feats (near k) ⟨ch.val, h⟩ else relative pts q near k ⟨ch.val - 32, by omega⟩

/-- The first layer: a feature of one query. -/
def feature (W1 : Fin 3 → Fin 16 → EReal) (b1 : Fin 16 → EReal) (W2 : Fin 16 → Fin 4 → EReal) (b2 : Fin 4 → EReal)
    (W : Fin 140 → EReal) (b : EReal) (rel : Fin 16 → Fin 3 → EReal) (chan : Fin 16 → Fin 35 → EReal) : EReal :=
  max (project (moment (fun k => weight W1 b1 W2 b2 (rel k)) chan) (fun a ch => W ⟨a.val * 35 + ch.val, by omega⟩) b) 0

/-- The second layer: a result of one query, from its feature `f` and its neighbours' narrowed features. -/
def result (W1 : Fin 3 → Fin 16 → EReal) (b1 : Fin 16 → EReal) (W2 : Fin 16 → Fin 4 → EReal) (b2 : Fin 4 → EReal)
    (W : Fin 64 → EReal) (b f : EReal) (rel : Fin 16 → Fin 3 → EReal) (chan : Fin 16 → Fin 16 → EReal) : EReal :=
  max (f + project (moment (fun k => weight W1 b1 W2 b2 (rel k)) chan) (fun a ch => W ⟨a.val * 16 + ch.val, by omega⟩) b) 0

/-- The first layer depends on its entries alone. -/
theorem feature_congr {W1 W1' : Fin 3 → Fin 16 → EReal} {b1 b1' : Fin 16 → EReal} {W2 W2' : Fin 16 → Fin 4 → EReal}
    {b2 b2' : Fin 4 → EReal} {b b' : EReal} {q q' : Fin 3 → EReal} {N : Nat} (W : Fin 140 → EReal) (pts : Fin N → Fin 3 → EReal)
    (feats : Fin N → Fin 32 → EReal) (near : Fin 16 → Fin N) (e1 : ∀ c h, W1 c h = W1' c h) (e2 : ∀ h, b1 h = b1' h)
    (e3 : ∀ h a, W2 h a = W2' h a) (e4 : ∀ a, b2 a = b2' a) (e5 : b = b') (e6 : ∀ c, q c = q' c) :
    feature W1 b1 W2 b2 W b (relative pts q near) (channels pts feats q near)
      = feature W1' b1' W2' b2' W b' (relative pts q' near) (channels pts feats q' near) := by
  obtain rfl : W1 = W1' := funext fun c => funext (e1 c)
  obtain rfl : b1 = b1' := funext e2
  obtain rfl : W2 = W2' := funext fun h => funext (e3 h)
  obtain rfl : b2 = b2' := funext e4
  obtain rfl : q = q' := funext e6
  rw [e5]

/-- The second layer depends on its entries alone. -/
theorem result_congr {W1 W1' : Fin 3 → Fin 16 → EReal} {b1 b1' : Fin 16 → EReal} {W2 W2' : Fin 16 → Fin 4 → EReal}
    {b2 b2' : Fin 4 → EReal} {b b' f f' : EReal} {q q' : Fin 3 → EReal} {N : Nat} (W : Fin 64 → EReal) (pts : Fin N → Fin 3 → EReal)
    (chan : Fin 16 → Fin 16 → EReal) (near : Fin 16 → Fin N) (e1 : ∀ c h, W1 c h = W1' c h) (e2 : ∀ h, b1 h = b1' h)
    (e3 : ∀ h a, W2 h a = W2' h a) (e4 : ∀ a, b2 a = b2' a) (e5 : b = b') (e6 : ∀ c, q c = q' c) (e7 : f = f') :
    result W1 b1 W2 b2 W b f (relative pts q near) chan = result W1' b1' W2' b2' W b' f' (relative pts q' near) chan := by
  obtain rfl : W1 = W1' := funext fun c => funext (e1 c)
  obtain rfl : b1 = b1' := funext e2
  obtain rfl : W2 = W2' := funext fun h => funext (e3 h)
  obtain rfl : b2 = b2' := funext e4
  obtain rfl : q = q' := funext e6
  rw [e5, e7]

end Cert.Network
-- ==== Proof.Layers.lean ====
/- The kernels' widened layers are the network's: the columns past the channels in use meet zero weights, so they add nothing. -/
module

public import proofs.«01_k».proof.Proof.Dense1
public import proofs.«01_k».proof.Proof.Dense2
public import proofs.«01_k».proof.Proof.Network

@[expose] public section

noncomputable section

namespace Cert.Layers

open Cert.PointConv

variable {N : Nat} (W1 : Fin 3 → Fin 16 → EReal) (b1 : Fin 16 → EReal) (W2 : Fin 16 → Fin 4 → EReal) (b2 : Fin 4 → EReal)
  (pts : Fin N → Fin 3 → EReal) (q : Fin 3 → EReal) (near : Fin 16 → Fin N) (b f : EReal)

/-- The first kernel's feature is the first layer's. -/
theorem feature_eq (feats : Fin N → Fin 32 → EReal) (g : Fin 16 → Fin 48 → EReal) (W : Fin 192 → EReal) (W' : Fin 140 → EReal)
    (hg : ∀ k (ch : Fin 48), g k ch = if h : ch.val < 32 then feats (near k) ⟨ch.val, h⟩
      else if h : ch.val - 32 < 3 then pts (near k) ⟨ch.val - 32, h⟩ else 0)
    (hW : ∀ (a : Fin 4) (ch : Fin 48), W ⟨a.val * 48 + ch.val, by omega⟩
      = if h : ch.val < 35 then W' ⟨a.val * 35 + ch.val, by omega⟩ else 0) :
    KernelIdeal.Dense1.feature g q W1 b1 W2 b2 W b
      = Network.feature W1 b1 W2 b2 W' b (Network.relative pts q near) (Network.channels pts feats q near) := by
  have hrel : ∀ k (c : Fin 3) (h : 32 + c.val < 48), g k ⟨32 + c.val, h⟩ = pts (near k) c := fun k c h => by
    have e : 32 + c.val - 32 = c.val := by omega
    rw [hg, dif_neg (by simp), dif_pos (by simp [e])]
    congr 1
    exact Fin.ext e
  unfold KernelIdeal.Dense1.feature Network.feature
  congr 1
  refine project_eq_of_tail (by decide) _ _ _ _ _ (fun a ch => ?_) (fun a ch => ?_) fun a ch h => ?_
  · unfold KernelIdeal.Dense1.moments moment
    refine Finset.sum_congr rfl fun k _ => ?_
    simp only [hrel]
    congr 1
    unfold KernelIdeal.Dense1.shifted Network.channels
    by_cases h : ch.val < 32
    · simp [h, hg]
    · have h3 : ch.val - 32 < 3 := by omega
      simp only [h, if_false, dif_neg, not_false_eq_true, h3, dif_pos]
      rw [hrel k ⟨ch.val - 32, h3⟩]
      rfl
  · exact (hW a _).trans (dif_pos ch.isLt)
  · exact (hW a ch).trans (dif_neg (by omega))

/-- The second kernel's result is the second layer's. -/
theorem result_eq (feats : Fin N → Fin 16 → EReal) (g : Fin 16 → Fin 32 → EReal) (W : Fin 128 → EReal) (W' : Fin 64 → EReal)
    (hg : ∀ k (ch : Fin 32), g k ch = if h : ch.val < 16 then feats (near k) ⟨ch.val, h⟩
      else if h : ch.val - 16 < 3 then pts (near k) ⟨ch.val - 16, h⟩ else 0)
    (hW : ∀ (a : Fin 4) (ch : Fin 32), W ⟨a.val * 32 + ch.val, by omega⟩
      = if h : ch.val < 16 then W' ⟨a.val * 16 + ch.val, by omega⟩ else 0) :
    KernelIdeal.Dense2.result g q W1 b1 W2 b2 W b f
      = Network.result W1 b1 W2 b2 W' b f (Network.relative pts q near) fun k ch => feats (near k) ch := by
  have hrel : ∀ k (c : Fin 3) (h : 16 + c.val < 32), g k ⟨16 + c.val, h⟩ = pts (near k) c := fun k c h => by
    have e : 16 + c.val - 16 = c.val := by omega
    rw [hg, dif_neg (by simp), dif_pos (by simp [e])]
    congr 1
    exact Fin.ext e
  unfold KernelIdeal.Dense2.result Network.result
  congr 2
  refine project_eq_of_tail (by decide) _ _ _ _ _ (fun a ch => ?_) (fun a ch => ?_) fun a ch h => ?_
  · unfold KernelIdeal.Dense2.moments moment
    refine Finset.sum_congr rfl fun k _ => ?_
    simp only [hrel]
    congr 1
    rw [hg, dif_pos ch.isLt]
  · exact (hW a _).trans (dif_pos ch.isLt)
  · exact (hW a ch).trans (dif_neg (by omega))

end Cert.Layers
-- ==== Proof.TopK.lean ====
/- The positions of the greatest entries: those of the negated distances are the points in the order of their distance. -/
module

public import proofs.«01_k».proof.Proof.Neighbours
public import Idealize.ShloMosaic.Lib.Pointwise

@[expose] public section

set_option maxRecDepth 16384

noncomputable section

namespace Cert.TopK

open Idealize.ShloMosaic Cert.Neighbours

variable {B S N K : Nat}

/-- A stable sort of negated values from the greatest on visits the points in the order of the values. -/
theorem sorted_neg (e : Fin N → EReal) :
    (sortedFrom fun a b => FloatOps.cmpfTotal (F := Ideal) (φ := .f32) .gt (-(e a) : EReal) (-(e b) : EReal) == 1#1) = nearest e := by
  unfold nearest
  congr 1
  funext a b
  have h : FloatOps.cmpfTotal (F := Ideal) (φ := .f32) .gt (-(e a) : EReal) (-(e b) : EReal) = BitVec.ofBool (decide (-(e b) < -(e a))) := rfl
  rw [h]
  by_cases hab : e a < e b
  · simp [hab]
  · simp [hab]

/-- The j-th greatest of a row of negated values stands where the j-th smallest value stands. -/
theorem indices_eq (x : (⟨3, ![B, S, N]⟩ : Shape).Idx → EReal) (h : (⟨3, ![B, S, N]⟩ : Shape).Slices (fun _ => 0) ⟨3, ![B, S, K]⟩)
    (b : Fin B) (s : Fin S) (e : Fin N → EReal) (he : ∀ n, x (ix3 b s n) = -(e n)) (j : Fin K) (p : Fin N) (hp : p.val = j.val) :
    (Host.topK ⟨3, ![B, S, K]⟩ 2 (FloatOps.cmpfTotal (F := Ideal) (φ := .f32) .gt) x h).2 (ix3 b s j)
      = BitVec.ofNat 32 (nearest e p).val := by
  have at_eq : ∀ J : (⟨3, ![B, S, N]⟩ : Shape).Idx, J = ix3 b s p →
      (Host.sort2 ⟨3, ![B, S, N]⟩ 2 (fun l r : EReal × BitVec 32 => FloatOps.cmpfTotal (F := Ideal) (φ := .f32) .gt l.1 r.1) x
        (fun i => BitVec.ofNat 32 (i 2).val)).2 J = BitVec.ofNat 32 (nearest e p).val := by
    rintro _ rfl
    have along_eq : ∀ k : Fin N, (ix3 b s p : (⟨3, ![B, S, N]⟩ : Shape).Idx).along 2 k = ix3 b s k := fun k => by
      funext a
      fin_cases a <;> rfl
    show BitVec.ofNat 32 ((ix3 b s p : (⟨3, ![B, S, N]⟩ : Shape).Idx).along 2 (sortedFrom (fun k k' : Fin N =>
      FloatOps.cmpfTotal (F := Ideal) (φ := .f32) .gt (x ((ix3 b s p : (⟨3, ![B, S, N]⟩ : Shape).Idx).along 2 k))
        (x ((ix3 b s p : (⟨3, ![B, S, N]⟩ : Shape).Idx).along 2 k')) == 1#1) p) 2).val = _
    simp only [along_eq, he]
    exact congrArg (fun f : Fin N → Fin N => BitVec.ofNat 32 (f p).val) (sorted_neg e)
  refine at_eq _ ?_
  funext a
  fin_cases a
  · exact Fin.ext (Nat.zero_add _)
  · exact Fin.ext (Nat.zero_add _)
  · exact Fin.ext ((Nat.zero_add _).trans hp.symm)

end Cert.TopK
-- ==== Proof.RefKnn.lean ====
/- The reference's two neighbour searches, read entry by entry: the j-th neighbour of a query is the j-th nearest point, and
   the rows gathered at the neighbours are those points' rows. -/
module

public import proofs.«01_k».proof.Proof.Gen.ReferenceIdeal.Read
public import proofs.«01_k».proof.Proof.Distance
public import proofs.«01_k».proof.Proof.Select
public import proofs.«01_k».proof.Proof.Rows
public import proofs.«01_k».proof.Proof.TopK

@[expose] public section

set_option maxRecDepth 16384

noncomputable section

namespace Cert.ReferenceIdeal.Knn

open Cert.ReferenceIdeal Cert.ReferenceIdeal.Gen Cert.ReferenceIdeal.Read Idealize.ShloMosaic Idealize.ShloMosaic.TcCoe Cert.Neighbours

/-- The negated distances to the first cloud. -/
theorem negated0 (x0 : FVec S4x8192x3 .f32 (F := Ideal)) (x2 : FVec S4x2048x3 .f32 (F := Ideal)) (b : Fin 4) (s : Fin 2048) (n : Fin 8192) :
    val_main_v13 (F := Ideal) x0 x2 (ix3 b s n) = -(Distance.full (fun x => x2 (ix3 b s x)) (fun x => x0 (ix3 b n x))) := by
  pointwise [val_main_v13, val_main_v12, val_main_v7, val_main_v6, val_main_v5, val_main_v4, val_main_cst_0, val_main_v3, val_main_v2,
    val_main_v1, val_main_cst, val_main_v0, val_main_v8, val_main_v9, val_main_v10, val_main_v11, val_main_cst_1, Distance.full]
  rw [ofBits_two]

/-- The negated distances within the queries. -/
theorem negated1 (x2 : FVec S4x2048x3 .f32 (F := Ideal)) (b : Fin 4) (s n : Fin 2048) :
    val_main_v63 (F := Ideal) x2 (ix3 b s n) = -(Distance.full (fun x => x2 (ix3 b s x)) (fun x => x2 (ix3 b n x))) := by
  pointwise [val_main_v63, val_main_v62, val_main_v57, val_main_v56, val_main_v55, val_main_v54, val_main_cst_8, val_main_v53, val_main_v52,
    val_main_v51, val_main_cst_7, val_main_v50, val_main_v58, val_main_v59, val_main_v60, val_main_v61, val_main_cst_9, Distance.full]
  rw [ofBits_two]

/-- The j-th neighbour of a query in the first cloud. -/
def near0 (x0 : FVec S4x8192x3 .f32 (F := Ideal)) (x2 : FVec S4x2048x3 .f32 (F := Ideal)) (b : Fin 4) (s : Fin 2048) (j : Fin 16) : Fin 8192 :=
  nearest (fun n : Fin 8192 => Distance.full (fun x => x2 (ix3 b s x)) (fun x => x0 (ix3 b n x))) ⟨j.val, by omega⟩

/-- The j-th neighbour of a query among the queries. -/
def near1 (x2 : FVec S4x2048x3 .f32 (F := Ideal)) (b : Fin 4) (s : Fin 2048) (j : Fin 16) : Fin 2048 :=
  nearest (fun n : Fin 2048 => Distance.full (fun x => x2 (ix3 b s x)) (fun x => x2 (ix3 b n x))) ⟨j.val, by omega⟩

/-- The first search's words. -/
theorem indices0 (x0 : FVec S4x8192x3 .f32 (F := Ideal)) (x2 : FVec S4x2048x3 .f32 (F := Ideal)) (b : Fin 4) (s : Fin 2048) (j : Fin 16) :
    val_main_indices (F := Ideal) x0 x2 (ix3 b s j) = BitVec.ofNat 32 (near0 x0 x2 b s j).val := by
  unfold val_main_indices
  exact TopK.indices_eq _ _ b s _ (negated0 x0 x2 b s) j _ rfl

/-- The second search's words. -/
theorem indices1 (x2 : FVec S4x2048x3 .f32 (F := Ideal)) (b : Fin 4) (s : Fin 2048) (j : Fin 16) :
    val_main_indices_11 (F := Ideal) x2 (ix3 b s j) = BitVec.ofNat 32 (near1 x2 b s j).val := by
  unfold val_main_indices_11
  exact TopK.indices_eq _ _ b s _ (negated1 x2 b s) j _ rfl

/-- The words at which the first cloud is read. -/
theorem words0 (x0 : FVec S4x8192x3 .f32 (F := Ideal)) (x2 : FVec S4x2048x3 .f32 (F := Ideal)) (b : Fin 4) (s : Fin 2048) (j : Fin 16) :
    val_main_v19 (F := Ideal) x0 x2 (ix4 b s j 0) = BitVec.ofNat 32 (near0 x0 x2 b s j).val := by
  have h := indices0 x0 x2 b s j
  have hk := (near0 x0 x2 b s j).isLt
  generalize (near0 x0 x2 b s j).val = k at h hk
  rw [← Rows.wrap_eq k (by omega) 8192#32, ← h]
  generalize hv : val_main_indices (F := Ideal) x0 x2 = v
  pointwise [val_main_v19, val_main_v18, val_main_v17, val_main_v16, val_main_v15, val_main_v14, val_main_c, val_main_c_2, hv]

/-- The words at which the features are read. -/
theorem words0_feature (x0 : FVec S4x8192x3 .f32 (F := Ideal)) (x2 : FVec S4x2048x3 .f32 (F := Ideal)) (b : Fin 4) (s : Fin 2048) (j : Fin 16) :
    val_main_v29 (F := Ideal) x0 x2 (ix4 b s j 0) = BitVec.ofNat 32 (near0 x0 x2 b s j).val := by
  have h := indices0 x0 x2 b s j
  have hk := (near0 x0 x2 b s j).isLt
  generalize (near0 x0 x2 b s j).val = k at h hk
  rw [← Rows.wrap_eq k (by omega) 8192#32, ← h]
  generalize hv : val_main_indices (F := Ideal) x0 x2 = v
  pointwise [val_main_v29, val_main_v28, val_main_v27, val_main_v26, val_main_v25, val_main_v24, val_main_c_3, val_main_c_4, hv]

/-- The words at which the queries are read. -/
theorem words1 (x2 : FVec S4x2048x3 .f32 (F := Ideal)) (b : Fin 4) (s : Fin 2048) (j : Fin 16) :
    val_main_v75 (F := Ideal) x2 (ix4 b s j 0) = BitVec.ofNat 32 (near1 x2 b s j).val := by
  have h := indices1 x2 b s j
  have hk := (near1 x2 b s j).isLt
  generalize (near1 x2 b s j).val = k at h hk
  rw [← Rows.wrap_eq k (by omega) 2048#32, ← h]
  generalize hv : val_main_indices_11 (F := Ideal) x2 = v
  pointwise [val_main_v75, val_main_v74, val_main_v73, val_main_v72, val_main_v71, val_main_v70, val_main_c_13, val_main_c_14, hv]

/-- The words at which the features of the queries are read. -/
theorem words1_feature (x2 : FVec S4x2048x3 .f32 (F := Ideal)) (b : Fin 4) (s : Fin 2048) (j : Fin 16) :
    val_main_v85 (F := Ideal) x2 (ix4 b s j 0) = BitVec.ofNat 32 (near1 x2 b s j).val := by
  have h := indices1 x2 b s j
  have hk := (near1 x2 b s j).isLt
  generalize (near1 x2 b s j).val = k at h hk
  rw [← Rows.wrap_eq k (by omega) 2048#32, ← h]
  generalize hv : val_main_indices_11 (F := Ideal) x2 = v
  pointwise [val_main_v85, val_main_v84, val_main_v83, val_main_v82, val_main_v81, val_main_v80, val_main_c_15, val_main_c_16, hv]

/-- The neighbours' coordinates. -/
theorem points0 (x0 : FVec S4x8192x3 .f32 (F := Ideal)) (x2 : FVec S4x2048x3 .f32 (F := Ideal)) (b : Fin 4) (s : Fin 2048) (j : Fin 16) (ch : Fin 3) :
    val_main_v20 (F := Ideal) x0 x2 (ix4 b s j ch) = x0 (ix3 b (near0 x0 x2 b s j) ch) := by
  unfold val_main_v20
  rw [Rows.gather_table (by decide) _ rfl rfl rfl rfl rfl rfl rfl, words0, Rows.clamp_eq _ _ (by decide)]

/-- The neighbours' features. -/
theorem features0 (x0 : FVec S4x8192x3 .f32 (F := Ideal)) (x1 : FVec S4x8192x32 .f32 (F := Ideal)) (x2 : FVec S4x2048x3 .f32 (F := Ideal)) (b : Fin 4) (s : Fin 2048) (j : Fin 16) (ch : Fin 32) :
    val_main_v30 (F := Ideal) x0 x1 x2 (ix4 b s j ch) = x1 (ix3 b (near0 x0 x2 b s j) ch) := by
  unfold val_main_v30
  rw [Rows.gather_table (by decide) _ rfl rfl rfl rfl rfl rfl rfl, words0_feature, Rows.clamp_eq _ _ (by decide)]

/-- The neighbouring queries' coordinates. -/
theorem points1 (x2 : FVec S4x2048x3 .f32 (F := Ideal)) (b : Fin 4) (s : Fin 2048) (j : Fin 16) (ch : Fin 3) :
    val_main_v76 (F := Ideal) x2 (ix4 b s j ch) = x2 (ix3 b (near1 x2 b s j) ch) := by
  unfold val_main_v76
  rw [Rows.gather_table (by decide) _ rfl rfl rfl rfl rfl rfl rfl, words1, Rows.clamp_eq _ _ (by decide)]

end Cert.ReferenceIdeal.Knn
-- ==== Proof.RefConv.lean ====
/- The reference's two layers, read entry by entry. -/
module

public import proofs.«01_k».proof.Proof.RefKnn
public import proofs.«01_k».proof.Proof.Network

@[expose] public section

set_option maxRecDepth 16384

noncomputable section

namespace Cert.ReferenceIdeal.Conv

open Cert.ReferenceIdeal Cert.ReferenceIdeal.Gen Cert.ReferenceIdeal.Read Cert.ReferenceIdeal.Knn
open Idealize.ShloMosaic Idealize.ShloMosaic.TcCoe Cert.PointConv

variable (x0 : FVec S4x8192x3 .f32 (F := Ideal)) (x1 : FVec S4x8192x32 .f32 (F := Ideal)) (x2 : FVec S4x2048x3 .f32 (F := Ideal))
  (x5 : FVec S3x16 .f32 (F := Ideal)) (x6 : FVec S16 .f32 (F := Ideal)) (x7 : FVec S16x4 .f32 (F := Ideal)) (x8 : FVec S4 .f32 (F := Ideal))
  (x9 : FVec S140x64 .f32 (F := Ideal)) (x10 : FVec S64 .f32 (F := Ideal)) (x11 : FVec S64x16 .f32 (F := Ideal)) (x12 : FVec S16 .f32 (F := Ideal))
  (x13 : FVec S3x16 .f32 (F := Ideal)) (x14 : FVec S16 .f32 (F := Ideal)) (x15 : FVec S16x4 .f32 (F := Ideal)) (x16 : FVec S4 .f32 (F := Ideal))
  (x17 : FVec S64x64 .f32 (F := Ideal)) (x18 : FVec S64 .f32 (F := Ideal))

/-- A query's sixteen neighbours in the first cloud, relative to it. -/
abbrev rel0 (b : Fin 4) (s : Fin 2048) : Fin 16 → Fin 3 → EReal :=
  Network.relative (fun n c => x0 (ix3 b n c)) (fun c => x2 (ix3 b s c)) (near0 x0 x2 b s)

/-- The relative coordinates the reference forms in its first layer. -/
theorem relative0 (b : Fin 4) (s : Fin 2048) (k : Fin 16) (c : Fin 3) :
    val_main_v23 (F := Ideal) x0 x2 (ix4 b s k c) = rel0 x0 x2 b s k c := by
  have h := points0 x0 x2 b s k c
  generalize hv : val_main_v20 (F := Ideal) x0 x2 = v at h
  pointwise [val_main_v23, val_main_v22, val_main_v21, hv]
  rw [h]
  rfl

/-- The first layer's weights. -/
theorem weights0 (b : Fin 4) (s : Fin 2048) (k : Fin 16) (a : Fin 4) :
    val_main_v41 (F := Ideal) x0 x2 x5 x6 x7 x8 (ix4 b s k a)
      = weight (fun c h => x5 (ix2 c h)) (fun h => x6 (ix1 h)) (fun h a => x7 (ix2 h a)) (fun a => x8 (ix1 a)) (rel0 x0 x2 b s k) a := by
  have h := relative0 x0 x2 b s k
  generalize hv : val_main_v23 (F := Ideal) x0 x2 = v at h
  unfold weight
  simp only [← h]
  pointwise [val_main_v41, val_main_v40, val_main_v39, val_main_v38, val_main_v37, val_main_v36, val_main_v35, val_main_v34, val_main_v33,
    val_main_v32, val_main_cst_5, hv]

/-- The first layer's channels. -/
theorem channels0 (b : Fin 4) (s : Fin 2048) (k : Fin 16) (ch : Fin 35) :
    val_main_v31 (F := Ideal) x0 x1 x2 (ix4 b s k ch)
      = Network.channels (fun n c => x0 (ix3 b n c)) (fun n c => x1 (ix3 b n c)) (fun c => x2 (ix3 b s c)) (near0 x0 x2 b s) k ch := by
  have h := relative0 x0 x2 b s k
  have h' := features0 x0 x1 x2 b s k
  unfold Network.channels
  simp only [← h, ← h']
  generalize hv : val_main_v23 (F := Ideal) x0 x2 = v
  generalize hw : val_main_v30 (F := Ideal) x0 x1 x2 = w
  pointwise [val_main_v31, hv, hw]

/-- The first layer's feature of a query. -/
abbrev feature0 (b : Fin 4) (s : Fin 2048) (o : Fin 64) : EReal :=
  Network.feature (fun c h => x5 (ix2 c h)) (fun h => x6 (ix1 h)) (fun h a => x7 (ix2 h a)) (fun a => x8 (ix1 a)) (fun i => x9 (ix2 i o))
    (x10 (ix1 o)) (rel0 x0 x2 b s)
    (Network.channels (fun n c => x0 (ix3 b n c)) (fun n c => x1 (ix3 b n c)) (fun c => x2 (ix3 b s c)) (near0 x0 x2 b s))

/-- The moments of the first layer. -/
theorem moments0 (b : Fin 4) (s : Fin 2048) (a : Fin 4) (ch : Fin 35) :
    val_main_v42 (F := Ideal) x0 x1 x2 x5 x6 x7 x8 (ix4 b s a ch)
      = moment (fun k => weight (fun c h => x5 (ix2 c h)) (fun h => x6 (ix1 h)) (fun h a => x7 (ix2 h a)) (fun a => x8 (ix1 a)) (rel0 x0 x2 b s k))
          (Network.channels (fun n c => x0 (ix3 b n c)) (fun n c => x1 (ix3 b n c)) (fun c => x2 (ix3 b s c)) (near0 x0 x2 b s)) a ch := by
  unfold moment
  simp only [← weights0 x0 x2 x5 x6 x7 x8, ← channels0 x0 x1 x2]
  generalize hv : val_main_v41 (F := Ideal) x0 x2 x5 x6 x7 x8 = v
  generalize hw : val_main_v31 (F := Ideal) x0 x1 x2 = w
  pointwise [val_main_v42, hv, hw]

/-- The moments laid in one row of 140. -/
theorem flat0 (b : Fin 4) (s : Fin 2048) (a : Fin 4) (ch : Fin 35) (h : a.val * 35 + ch.val < 140) :
    val_main_v43 (F := Ideal) x0 x1 x2 x5 x6 x7 x8 (ix3 b s ⟨a.val * 35 + ch.val, h⟩)
      = val_main_v42 (F := Ideal) x0 x1 x2 x5 x6 x7 x8 (ix4 b s a ch) := by
  rw [val_main_v43_apply]
  congr 1
  have hb := b.isLt
  have hs := s.isLt
  have ha := a.isLt
  have hc := ch.isLt
  funext e
  apply Fin.ext
  fin_cases e
  · show ((b.val * 2048 + s.val) * 140 + (a.val * 35 + ch.val)) / 286720 = b.val
    omega
  · show ((b.val * 2048 + s.val) * 140 + (a.val * 35 + ch.val)) / 140 % 2048 = s.val
    omega
  · show ((b.val * 2048 + s.val) * 140 + (a.val * 35 + ch.val)) / 35 % 4 = a.val
    omega
  · show ((b.val * 2048 + s.val) * 140 + (a.val * 35 + ch.val)) % 35 = ch.val
    omega

/-- The reference's first features. -/
theorem features (b : Fin 4) (s : Fin 2048) (o : Fin 64) :
    val_main_v49 (F := Ideal) x0 x1 x2 x5 x6 x7 x8 x9 x10 (ix3 b s o) = feature0 x0 x1 x2 x5 x6 x7 x8 x9 x10 b s o := by
  unfold feature0 Network.feature
  rw [← project_eq_flat (N := 140) rfl _ _ _ (fun i => val_main_v43 (F := Ideal) x0 x1 x2 x5 x6 x7 x8 (ix3 b s i) * x9 (ix2 i o))
    fun a ch h => by rw [flat0, moments0]]
  generalize hv : val_main_v43 (F := Ideal) x0 x1 x2 x5 x6 x7 x8 = v
  pointwise [val_main_v49, val_main_v48, val_main_v47, val_main_v46, val_main_v45, val_main_v44, val_main_cst_6, hv]

/-- A feature narrowed to one of 16 channels. -/
abbrev narrow (b : Fin 4) (s : Fin 2048) (o : Fin 16) : EReal :=
  max (∑ x, feature0 x0 x1 x2 x5 x6 x7 x8 x9 x10 b s x * x11 (ix2 x o) + x12 (ix1 o)) 0

/-- The reference's narrowed features. -/
theorem narrowed (b : Fin 4) (s : Fin 2048) (o : Fin 16) :
    val_main_v69 (F := Ideal) x0 x1 x2 x5 x6 x7 x8 x9 x10 x11 x12 (ix3 b s o) = narrow x0 x1 x2 x5 x6 x7 x8 x9 x10 x11 x12 b s o := by
  unfold narrow
  simp only [← features x0 x1 x2 x5 x6 x7 x8 x9 x10]
  generalize hv : val_main_v49 (F := Ideal) x0 x1 x2 x5 x6 x7 x8 x9 x10 = v
  pointwise [val_main_v69, val_main_v68, val_main_v67, val_main_v66, val_main_v65, val_main_v64, val_main_cst_12, hv]

/-- A query's sixteen neighbours among the queries, relative to it. -/
abbrev rel1 (b : Fin 4) (s : Fin 2048) : Fin 16 → Fin 3 → EReal :=
  Network.relative (fun n c => x2 (ix3 b n c)) (fun c => x2 (ix3 b s c)) (near1 x2 b s)

/-- The relative coordinates the reference forms in its second layer. -/
theorem relative1 (b : Fin 4) (s : Fin 2048) (k : Fin 16) (c : Fin 3) :
    val_main_v79 (F := Ideal) x2 (ix4 b s k c) = rel1 x2 b s k c := by
  have h := points1 x2 b s k c
  generalize hv : val_main_v76 (F := Ideal) x2 = v at h
  pointwise [val_main_v79, val_main_v78, val_main_v77, hv]
  rw [h]
  rfl

/-- The second layer's weights. -/
theorem weights1 (b : Fin 4) (s : Fin 2048) (k : Fin 16) (a : Fin 4) :
    val_main_v96 (F := Ideal) x2 x13 x14 x15 x16 (ix4 b s k a)
      = weight (fun c h => x13 (ix2 c h)) (fun h => x14 (ix1 h)) (fun h a => x15 (ix2 h a)) (fun a => x16 (ix1 a)) (rel1 x2 b s k) a := by
  have h := relative1 x2 b s k
  generalize hv : val_main_v79 (F := Ideal) x2 = v at h
  unfold weight
  simp only [← h]
  pointwise [val_main_v96, val_main_v95, val_main_v94, val_main_v93, val_main_v92, val_main_v91, val_main_v90, val_main_v89, val_main_v88,
    val_main_v87, val_main_cst_17, hv]

/-- The neighbouring queries' narrowed features. -/
abbrev channels1 (b : Fin 4) (s : Fin 2048) (k : Fin 16) (ch : Fin 16) : EReal :=
  narrow x0 x1 x2 x5 x6 x7 x8 x9 x10 x11 x12 b (near1 x2 b s k) ch

/-- The second layer's channels. -/
theorem gathered1 (b : Fin 4) (s : Fin 2048) (k : Fin 16) (ch : Fin 16) :
    val_main_v86 (F := Ideal) x0 x1 x2 x5 x6 x7 x8 x9 x10 x11 x12 (ix4 b s k ch) = channels1 x0 x1 x2 x5 x6 x7 x8 x9 x10 x11 x12 b s k ch := by
  unfold val_main_v86
  rw [Rows.gather_table (by decide) _ rfl rfl rfl rfl rfl rfl rfl, words1_feature, Rows.clamp_eq _ _ (by decide), narrowed]

/-- The moments of the second layer. -/
theorem moments1 (b : Fin 4) (s : Fin 2048) (a : Fin 4) (ch : Fin 16) :
    val_main_v97 (F := Ideal) x0 x1 x2 x5 x6 x7 x8 x9 x10 x11 x12 x13 x14 x15 x16 (ix4 b s a ch)
      = moment (fun k => weight (fun c h => x13 (ix2 c h)) (fun h => x14 (ix1 h)) (fun h a => x15 (ix2 h a)) (fun a => x16 (ix1 a)) (rel1 x2 b s k))
          (channels1 x0 x1 x2 x5 x6 x7 x8 x9 x10 x11 x12 b s) a ch := by
  unfold moment
  simp only [← weights1 x2 x13 x14 x15 x16, ← gathered1 x0 x1 x2 x5 x6 x7 x8 x9 x10 x11 x12]
  generalize hv : val_main_v96 (F := Ideal) x2 x13 x14 x15 x16 = v
  generalize hw : val_main_v86 (F := Ideal) x0 x1 x2 x5 x6 x7 x8 x9 x10 x11 x12 = w
  pointwise [val_main_v97, hv, hw]

/-- The moments laid in one row of 64. -/
theorem flat1 (b : Fin 4) (s : Fin 2048) (a : Fin 4) (ch : Fin 16) (h : a.val * 16 + ch.val < 64) :
    val_main_v98 (F := Ideal) x0 x1 x2 x5 x6 x7 x8 x9 x10 x11 x12 x13 x14 x15 x16 (ix3 b s ⟨a.val * 16 + ch.val, h⟩)
      = val_main_v97 (F := Ideal) x0 x1 x2 x5 x6 x7 x8 x9 x10 x11 x12 x13 x14 x15 x16 (ix4 b s a ch) := by
  rw [val_main_v98_apply]
  congr 1
  have hb := b.isLt
  have hs := s.isLt
  have ha := a.isLt
  have hc := ch.isLt
  funext e
  apply Fin.ext
  fin_cases e
  · show ((b.val * 2048 + s.val) * 64 + (a.val * 16 + ch.val)) / 131072 = b.val
    omega
  · show ((b.val * 2048 + s.val) * 64 + (a.val * 16 + ch.val)) / 64 % 2048 = s.val
    omega
  · show ((b.val * 2048 + s.val) * 64 + (a.val * 16 + ch.val)) / 16 % 4 = a.val
    omega
  · show ((b.val * 2048 + s.val) * 64 + (a.val * 16 + ch.val)) % 16 = ch.val
    omega

/-- The reference's result. -/
theorem result_eq (b : Fin 4) (s : Fin 2048) (o : Fin 64) :
    val_main_v105 (F := Ideal) x0 x1 x2 x5 x6 x7 x8 x9 x10 x11 x12 x13 x14 x15 x16 x17 x18 (ix3 b s o)
      = Network.result (fun c h => x13 (ix2 c h)) (fun h => x14 (ix1 h)) (fun h a => x15 (ix2 h a)) (fun a => x16 (ix1 a))
          (fun i => x17 (ix2 i o)) (x18 (ix1 o)) (feature0 x0 x1 x2 x5 x6 x7 x8 x9 x10 b s o) (rel1 x2 b s) (channels1 x0 x1 x2 x5 x6 x7 x8 x9 x10 x11 x12 b s) := by
  unfold Network.result
  rw [← project_eq_flat (N := 64) rfl _ _ _
    (fun i => val_main_v98 (F := Ideal) x0 x1 x2 x5 x6 x7 x8 x9 x10 x11 x12 x13 x14 x15 x16 (ix3 b s i) * x17 (ix2 i o))
    fun a ch h => by rw [flat1, moments1]]
  rw [← features x0 x1 x2 x5 x6 x7 x8 x9 x10]
  generalize hv : val_main_v98 (F := Ideal) x0 x1 x2 x5 x6 x7 x8 x9 x10 x11 x12 x13 x14 x15 x16 = v
  generalize hw : val_main_v49 (F := Ideal) x0 x1 x2 x5 x6 x7 x8 x9 x10 = w
  pointwise [val_main_v105, val_main_v104, val_main_v103, val_main_v102, val_main_v101, val_main_v100, val_main_v99, val_main_cst_18, hv, hw]

end Cert.ReferenceIdeal.Conv
-- ==== Proof.KernelValue.lean ====
/- What the idealized kernel leaves in its result, launch by launch, where the points are finite. -/
module

public import proofs.«01_k».proof.Proof.Knn0
public import proofs.«01_k».proof.Proof.Knn1
public import proofs.«01_k».proof.Proof.HostReads
public import proofs.«01_k».proof.Proof.Layers
public import proofs.«01_k».proof.Proof.RefConv

@[expose] public section

set_option maxRecDepth 16384

noncomputable section

namespace Cert.KernelIdeal.Values

open Cert.KernelIdeal Cert.KernelIdeal.Gen Cert.KernelIdeal.Lines Cert.Neighbours
open Cert.ReferenceIdeal.Knn (near0 near1)
open Idealize.ShloMosaic Idealize.ShloMosaic.TcCoe Idealize.SL.Sem

variable (m : (ℓ : Loc nD τ sig) → Buf (Elt Ideal) ℓ) (ρ : Dev nD → PrngReg) (c : Dev nD)

/-- The launch's argument `r`. -/
abbrev arg (r : Ref sig .tc) : Buf (Elt Ideal) ((c : Thread nD τ).loc r) := m ((c : Thread nD τ).loc r)

/-- The points nearest by the kernel's distance are the nearest by the reference's. -/
theorem nearest_short {N : Nat} (q : Fin 3 → EReal) (p : Fin N → Fin 3 → EReal) (hq : ∀ x, q x ≠ ⊤ ∧ q x ≠ ⊥)
    (hp : ∀ i x, p i x ≠ ⊤ ∧ p i x ≠ ⊥) :
    nearest (fun i => Distance.short q (p i)) = nearest (fun i => Distance.full q (p i)) :=
  nearest_congr _ _ fun a b => Distance.short_lt_iff q (p a) (p b) hq (hp a) (hp b)

variable (h0 : ∀ i, (arg m c main_arg0 : FVec S4x8192x3 .f32 (F := Ideal)) i ≠ (⊤ : EReal) ∧ (arg m c main_arg0 : FVec S4x8192x3 .f32 (F := Ideal)) i ≠ (⊥ : EReal))
  (h2 : ∀ i, (arg m c main_arg2 : FVec S4x2048x3 .f32 (F := Ideal)) i ≠ (⊤ : EReal) ∧ (arg m c main_arg2 : FVec S4x2048x3 .f32 (F := Ideal)) i ≠ (⊥ : EReal))

/-- The first cloud as the first search is given it. -/
theorem cloud (b : Fin 4) (x : Fin 3) (i : Fin 8192) :
    (V1 m ρ c main_v0 : FVec S4x3x8192 .f32 (F := Ideal)) (ix3 b x i) = (arg m c main_arg0 : FVec S4x8192x3 .f32 (F := Ideal)) (ix3 b i x) :=
  cloud_apply _ b x i

/-- The queries as the searches are given them. -/
theorem queries (b : Fin 4) (x : Fin 3) (i : Fin 2048) :
    (V1 m ρ c main_v1 : FVec S4x3x2048 .f32 (F := Ideal)) (ix3 b x i) = (arg m c main_arg2 : FVec S4x2048x3 .f32 (F := Ideal)) (ix3 b i x) :=
  queries_apply _ b x i

/-- The second search is given the queries the first left as they were. -/
theorem queries' (b : Fin 4) (x : Fin 3) (i : Fin 2048) :
    (V2 m ρ c main_v1 : FVec S4x3x2048 .f32 (F := Ideal)) (ix3 b x i) = (arg m c main_arg2 : FVec S4x2048x3 .f32 (F := Ideal)) (ix3 b i x) :=
  (congrFun (W2_of m ρ c main_v1 (by decide)) _).trans (queries m ρ c b x i)

include h0 h2 in
/-- The first search leaves the first cloud's neighbours. -/
theorem search0 (b : Fin 4) (s : Fin 2048) (k : Fin 16) :
    (W2 m ρ c (Proc.devRef .tc main_v2) : IVec S4x2048x16 32) (ix3 b s k) = BitVec.ofNat 32 (near0 (arg m c main_arg0) (arg m c main_arg2) b s k).val := by
  have hq : ∀ (b : Fin 4) (s : Fin 2048), (fun x : Fin 3 => (V1 m ρ c main_v1 : FVec S4x3x2048 .f32 (F := Ideal)) (ix3 b x s))
      = fun x => (arg m c main_arg2 : FVec S4x2048x3 .f32 (F := Ideal)) (ix3 b s x) := fun b s => funext fun x => queries m ρ c b x s
  have hp : ∀ (b : Fin 4) (i : Fin 8192), (fun x : Fin 3 => (V1 m ρ c main_v0 : FVec S4x3x8192 .f32 (F := Ideal)) (ix3 b x i))
      = fun x => (arg m c main_arg0 : FVec S4x8192x3 .f32 (F := Ideal)) (ix3 b i x) := fun b i => funext fun x => cloud m ρ c b x i
  have hd : ∀ b s i, Distance.short (fun x : Fin 3 => (V1 m ρ c main_v1 : FVec S4x3x2048 .f32 (F := Ideal)) (ix3 b x s))
      (fun x => (V1 m ρ c main_v0 : FVec S4x3x8192 .f32 (F := Ideal)) (ix3 b x i)) < ⊤ := fun b s i => by
    rw [hq, hp]
    exact Distance.short_lt_top _ _ (fun x => h2 _) (fun x => h0 _)
  have hG : ∀ (b : Fin 4) (s : Fin 2048) (j : Fin 16), BitVec.ofNat 32 (near0 (arg m c main_arg0) (arg m c main_arg2) b s j).val
      = BitVec.ofNat 32 (nearest (fun i : Fin 8192 => Distance.short (fun x : Fin 3 => (V1 m ρ c main_v1 : FVec S4x3x2048 .f32 (F := Ideal)) (ix3 b x s))
          (fun x => (V1 m ρ c main_v0 : FVec S4x3x8192 .f32 (F := Ideal)) (ix3 b x i))) ⟨j.val, by omega⟩).val := fun b s j => by
    simp only [hq, hp]
    rw [nearest_short _ _ (fun x => h2 _) (fun i x => h0 _)]
    rfl
  exact congrFun ((W2_arr m ρ c 2).trans (Knn0.array_eq (V1 m ρ) c _ _ rfl rfl hd
    (fun y => BitVec.ofNat 32 (near0 (arg m c main_arg0) (arg m c main_arg2) (y 0) (y 1) (y 2)).val) hG)) (ix3 b s k)

include h2 in
/-- The second search leaves the queries' neighbours. -/
theorem search1 (b : Fin 4) (s : Fin 2048) (k : Fin 16) :
    (W3 m ρ c (Proc.devRef .tc main_v3) : IVec S4x2048x16 32) (ix3 b s k) = BitVec.ofNat 32 (near1 (arg m c main_arg2) b s k).val := by
  have hq : ∀ (b : Fin 4) (s : Fin 2048), (fun x : Fin 3 => (V2 m ρ c main_v1 : FVec S4x3x2048 .f32 (F := Ideal)) (ix3 b x s))
      = fun x => (arg m c main_arg2 : FVec S4x2048x3 .f32 (F := Ideal)) (ix3 b s x) := fun b s => funext fun x => queries' m ρ c b x s
  have hp : ∀ (b : Fin 4) (i : Fin 2048), (fun x : Fin 3 => (V2 m ρ c main_v1 : FVec S4x3x2048 .f32 (F := Ideal)) (ix3 b x i))
      = fun x => (arg m c main_arg2 : FVec S4x2048x3 .f32 (F := Ideal)) (ix3 b i x) := fun b i => funext fun x => queries' m ρ c b x i
  have hd : ∀ b s i, Distance.short (fun x : Fin 3 => (V2 m ρ c main_v1 : FVec S4x3x2048 .f32 (F := Ideal)) (ix3 b x s))
      (fun x => (V2 m ρ c main_v1 : FVec S4x3x2048 .f32 (F := Ideal)) (ix3 b x i)) < ⊤ := fun b s i => by
    rw [hq, hp]
    exact Distance.short_lt_top _ _ (fun x => h2 _) (fun x => h2 _)
  have hG : ∀ (b : Fin 4) (s : Fin 2048) (j : Fin 16), BitVec.ofNat 32 (near1 (arg m c main_arg2) b s j).val
      = BitVec.ofNat 32 (nearest (fun i : Fin 2048 => Distance.short (fun x : Fin 3 => (V2 m ρ c main_v1 : FVec S4x3x2048 .f32 (F := Ideal)) (ix3 b x s))
          (fun x => (V2 m ρ c main_v1 : FVec S4x3x2048 .f32 (F := Ideal)) (ix3 b x i))) ⟨j.val, by omega⟩).val := fun b s j => by
    simp only [hq, hp]
    rw [nearest_short _ _ (fun x => h2 _) (fun i x => h2 _)]
    rfl
  exact congrFun ((W3_arr m ρ c 2).trans (Knn1.array_eq (V2 m ρ) c _ _ rfl rfl hd
    (fun y => BitVec.ofNat 32 (near1 (arg m c main_arg2) (y 0) (y 1) (y 2)).val) hG)) (ix3 b s k)

include h0 h2 in
/-- The rows the first PointConv launch is given. -/
theorem rows0 (b : Fin 4) (s : Fin 2048) (k : Fin 16) (ch : Fin 48) :
    (V6 m ρ c main_v13 : FVec S4x32768x48 .f32 (F := Ideal)) (ix3 b ⟨s.val * 16 + k.val, by omega⟩ ch)
      = if h : ch.val < 32 then (arg m c main_arg1 : FVec S4x8192x32 .f32 (F := Ideal)) (ix3 b (near0 (arg m c main_arg0) (arg m c main_arg2) b s k) ⟨ch.val, h⟩)
        else if h : ch.val - 32 < 3 then (arg m c main_arg0 : FVec S4x8192x3 .f32 (F := Ideal)) (ix3 b (near0 (arg m c main_arg0) (arg m c main_arg2) b s k) ⟨ch.val - 32, h⟩)
        else (0 : EReal) := by
  have e : V6 m ρ c main_v13 = W4 m ρ c (Proc.devRef .tc main_v13) := (W6_of m ρ c _ (by decide)).trans (W5_of m ρ c _ (by decide))
  rw [e]
  refine (rows0_apply (W3 m ρ c) b s k _ ((congrFun (W3_of m ρ c main_v2 (by decide)) _).trans (search0 m ρ c h0 h2 b s k)) ch).trans ?_
  rw [table0_apply, W3_args m ρ c main_arg1 (by decide), W3_args m ρ c main_arg0 (by decide)]

/-- The projection weights the first PointConv launch is given. -/
theorem weights0 (a : Fin 4) (ch : Fin 48) (o : Fin 64) :
    (V6 m ρ c main_v16 : FVec S192x64 .f32 (F := Ideal)) (ix2 ⟨a.val * 48 + ch.val, by omega⟩ o)
      = if h : ch.val < 35 then (arg m c main_arg9 : FVec S140x64 .f32 (F := Ideal)) (ix2 ⟨a.val * 35 + ch.val, by omega⟩ o) else (0 : EReal) := by
  refine (weights0_apply (W3 m ρ c) a ch o).trans ?_
  rw [W3_args m ρ c main_arg9 (by decide)]

/-- A bias the first PointConv launch is given. -/
theorem bias17 (i : Fin 16) : (V6 m ρ c main_v17 : FVec S1x16 .f32 (F := Ideal)) (ix2 0 i) = (arg m c main_arg6 : FVec S16 .f32 (F := Ideal)) (ix1 i) := by
  refine (bias17_apply (W5 m ρ c) i).trans ?_
  rw [W5_args m ρ c main_arg6 (by decide)]

/-- A bias the first PointConv launch is given. -/
theorem bias18 (i : Fin 4) : (V6 m ρ c main_v18 : FVec S1x4 .f32 (F := Ideal)) (ix2 0 i) = (arg m c main_arg8 : FVec S4 .f32 (F := Ideal)) (ix1 i) := by
  refine (bias18_apply (W5 m ρ c) i).trans ?_
  rw [W5_args m ρ c main_arg8 (by decide)]

/-- A bias the first PointConv launch is given. -/
theorem bias19 (i : Fin 64) : (V6 m ρ c main_v19 : FVec S1x64 .f32 (F := Ideal)) (ix2 0 i) = (arg m c main_arg10 : FVec S64 .f32 (F := Ideal)) (ix1 i) := by
  refine (bias19_apply (W5 m ρ c) i).trans ?_
  rw [W5_args m ρ c main_arg10 (by decide)]

/-- A bias the first PointConv launch is given. -/
theorem bias20 (i : Fin 16) : (V6 m ρ c main_v20 : FVec S1x16 .f32 (F := Ideal)) (ix2 0 i) = (arg m c main_arg12 : FVec S16 .f32 (F := Ideal)) (ix1 i) := by
  refine (bias20_apply (W5 m ρ c) i).trans ?_
  rw [W5_args m ρ c main_arg12 (by decide)]

include h0 h2 in
/-- The features the first PointConv launch computes are the reference's. -/
theorem feature_eq (b : Fin 4) (s : Fin 2048) (o : Fin 64) :
    Dense1.arrayFeature (V6 m ρ) c b s o = ReferenceIdeal.Conv.feature0 (arg m c main_arg0) (arg m c main_arg1) (arg m c main_arg2) (arg m c main_arg5) (arg m c main_arg6) (arg m c main_arg7) (arg m c main_arg8) (arg m c main_arg9) (arg m c main_arg10) b s o := by
  have e2 : V6 m ρ c main_arg2 = arg m c main_arg2 := W6_args m ρ c _ (by decide)
  have e5 : V6 m ρ c main_arg5 = arg m c main_arg5 := W6_args m ρ c _ (by decide)
  have e7 : V6 m ρ c main_arg7 = arg m c main_arg7 := W6_args m ρ c _ (by decide)
  unfold Dense1.arrayFeature
  refine (Layers.feature_eq _ _ _ _ (fun n c' => (arg m c main_arg0 : FVec S4x8192x3 .f32 (F := Ideal)) (ix3 b n c')) _ (near0 (arg m c main_arg0) (arg m c main_arg2) b s) _
    (fun n c' => (arg m c main_arg1 : FVec S4x8192x32 .f32 (F := Ideal)) (ix3 b n c')) _ _ (fun i => (arg m c main_arg9 : FVec S140x64 .f32 (F := Ideal)) (ix2 i o))
    (fun k ch => rows0 m ρ c h0 h2 b s k ch) (fun a ch => weights0 m ρ c a ch o)).trans ?_
  exact Network.feature_congr _ _ _ _ (fun x h => congrFun e5 _) (fun h => bias17 m ρ c h) (fun h a => congrFun e7 _)
    (fun a => bias18 m ρ c a) (bias19 m ρ c o) fun x => congrFun e2 _

include h0 h2 in
/-- The first PointConv launch's features. -/
theorem features (b : Fin 4) (s : Fin 2048) (o : Fin 64) :
    (W7 m ρ c (Proc.devRef .tc main_v21_0) : FVec S4x2048x64 .f32 (F := Ideal)) (ix3 b s o) = ReferenceIdeal.Conv.feature0 (arg m c main_arg0) (arg m c main_arg1) (arg m c main_arg2) (arg m c main_arg5) (arg m c main_arg6) (arg m c main_arg7) (arg m c main_arg8) (arg m c main_arg9) (arg m c main_arg10) b s o :=
  congrFun ((W7_arr m ρ c 10).trans (Dense1.features_eq (V6 m ρ) c (fun y => ReferenceIdeal.Conv.feature0 (arg m c main_arg0) (arg m c main_arg1) (arg m c main_arg2) (arg m c main_arg5) (arg m c main_arg6) (arg m c main_arg7) (arg m c main_arg8) (arg m c main_arg9) (arg m c main_arg10) (y 0) (y 1) (y 2))
    fun b s o => (feature_eq m ρ c h0 h2 b s o).symm)) (ix3 b s o)

include h0 h2 in
/-- The first PointConv launch's narrowed features. -/
theorem narrowed (b : Fin 4) (s : Fin 2048) (o : Fin 16) :
    (W7 m ρ c (Proc.devRef .tc main_v21_1) : FVec S4x2048x16 .f32 (F := Ideal)) (ix3 b s o) = ReferenceIdeal.Conv.narrow (arg m c main_arg0) (arg m c main_arg1) (arg m c main_arg2) (arg m c main_arg5) (arg m c main_arg6) (arg m c main_arg7) (arg m c main_arg8) (arg m c main_arg9) (arg m c main_arg10) (arg m c main_arg11) (arg m c main_arg12) b s o :=
  have e11 : V6 m ρ c main_arg11 = arg m c main_arg11 := W6_args m ρ c _ (by decide)
  congrFun ((W7_arr m ρ c 11).trans (Dense1.down_eq (V6 m ρ) c (fun y => ReferenceIdeal.Conv.narrow (arg m c main_arg0) (arg m c main_arg1) (arg m c main_arg2) (arg m c main_arg5) (arg m c main_arg6) (arg m c main_arg7) (arg m c main_arg8) (arg m c main_arg9) (arg m c main_arg10) (arg m c main_arg11) (arg m c main_arg12) (y 0) (y 1) (y 2))
    fun b s o => congrArg₂ max (congrArg₂ (· + ·) (Finset.sum_congr rfl fun x _ => congrArg₂ (· * ·)
      (feature_eq m ρ c h0 h2 b s x).symm (congrFun e11.symm _)) (bias20 m ρ c o).symm) rfl)) (ix3 b s o)

include h0 h2 in
/-- The rows the second PointConv launch is given. -/
theorem rows1 (b : Fin 4) (s : Fin 2048) (k : Fin 16) (ch : Fin 32) :
    (V10 m ρ c main_v31 : FVec S4x32768x32 .f32 (F := Ideal)) (ix3 b ⟨s.val * 16 + k.val, by omega⟩ ch)
      = if h : ch.val < 16 then ReferenceIdeal.Conv.narrow (arg m c main_arg0) (arg m c main_arg1) (arg m c main_arg2) (arg m c main_arg5) (arg m c main_arg6) (arg m c main_arg7) (arg m c main_arg8) (arg m c main_arg9) (arg m c main_arg10) (arg m c main_arg11) (arg m c main_arg12) b (near1 (arg m c main_arg2) b s k) ⟨ch.val, h⟩
        else if h : ch.val - 16 < 3 then (arg m c main_arg2 : FVec S4x2048x3 .f32 (F := Ideal)) (ix3 b (near1 (arg m c main_arg2) b s k) ⟨ch.val - 16, h⟩)
        else (0 : EReal) := by
  have e : V10 m ρ c main_v31 = W8 m ρ c (Proc.devRef .tc main_v31) := (W10_of m ρ c _ (by decide)).trans (W9_of m ρ c _ (by decide))
  have e3 : W7 m ρ c (Proc.devRef .tc main_v3) = W3 m ρ c (Proc.devRef .tc main_v3) :=
    (W7_of m ρ c _ (by decide)).trans ((W6_of m ρ c _ (by decide)).trans ((W5_of m ρ c _ (by decide)).trans (W4_of m ρ c _ (by decide))))
  rw [e]
  refine (rows1_apply (W7 m ρ c) b s k _ ((congrFun e3 _).trans (search1 m ρ c h2 b s k)) ch).trans ?_
  rw [table1_apply, W7_args m ρ c main_arg2 (by decide)]
  simp only [narrowed m ρ c h0 h2]

/-- The projection weights the second PointConv launch is given. -/
theorem weights1 (a : Fin 4) (ch : Fin 32) (o : Fin 64) :
    (V10 m ρ c main_v34 : FVec S128x64 .f32 (F := Ideal)) (ix2 ⟨a.val * 32 + ch.val, by omega⟩ o)
      = if h : ch.val < 16 then (arg m c main_arg17 : FVec S64x64 .f32 (F := Ideal)) (ix2 ⟨a.val * 16 + ch.val, by omega⟩ o) else (0 : EReal) := by
  refine (weights1_apply (W7 m ρ c) a ch o).trans ?_
  rw [W7_args m ρ c main_arg17 (by decide)]

/-- A bias the second PointConv launch is given. -/
theorem bias35 (i : Fin 16) : (V10 m ρ c main_v35 : FVec S1x16 .f32 (F := Ideal)) (ix2 0 i) = (arg m c main_arg14 : FVec S16 .f32 (F := Ideal)) (ix1 i) := by
  refine (bias35_apply (W9 m ρ c) i).trans ?_
  rw [W9_args m ρ c main_arg14 (by decide)]

/-- A bias the second PointConv launch is given. -/
theorem bias36 (i : Fin 4) : (V10 m ρ c main_v36 : FVec S1x4 .f32 (F := Ideal)) (ix2 0 i) = (arg m c main_arg16 : FVec S4 .f32 (F := Ideal)) (ix1 i) := by
  refine (bias36_apply (W9 m ρ c) i).trans ?_
  rw [W9_args m ρ c main_arg16 (by decide)]

/-- A bias the second PointConv launch is given. -/
theorem bias37 (i : Fin 64) : (V10 m ρ c main_v37 : FVec S1x64 .f32 (F := Ideal)) (ix2 0 i) = (arg m c main_arg18 : FVec S64 .f32 (F := Ideal)) (ix1 i) := by
  refine (bias37_apply (W9 m ρ c) i).trans ?_
  rw [W9_args m ρ c main_arg18 (by decide)]

/-- The result of the whole kernel, as the network's second layer on the reference's neighbours and features. -/
abbrev value (b : Fin 4) (s : Fin 2048) (o : Fin 64) : EReal :=
  ReferenceIdeal.Read.val_main_v105 (F := Ideal) (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (ix3 b s o)

include h0 h2 in
/-- The results the second PointConv launch computes are the reference's. -/
theorem result_eq (b : Fin 4) (s : Fin 2048) (o : Fin 64) : Dense2.arrayResult (V10 m ρ) c b s o = value m c b s o := by
  have e2 : V10 m ρ c main_arg2 = arg m c main_arg2 := W10_args m ρ c _ (by decide)
  have e13 : V10 m ρ c main_arg13 = arg m c main_arg13 := W10_args m ρ c _ (by decide)
  have e15 : V10 m ρ c main_arg15 = arg m c main_arg15 := W10_args m ρ c _ (by decide)
  have e21 : V10 m ρ c main_v21_0 = W7 m ρ c (Proc.devRef .tc main_v21_0) :=
    (W10_of m ρ c _ (by decide)).trans ((W9_of m ρ c _ (by decide)).trans (W8_of m ρ c _ (by decide)))
  unfold Dense2.arrayResult value
  rw [ReferenceIdeal.Conv.result_eq]
  refine (Layers.result_eq _ _ _ _ (fun n c' => (arg m c main_arg2 : FVec S4x2048x3 .f32 (F := Ideal)) (ix3 b n c')) _ (near1 (arg m c main_arg2) b s) _ _
    (fun n ch => ReferenceIdeal.Conv.narrow (arg m c main_arg0) (arg m c main_arg1) (arg m c main_arg2) (arg m c main_arg5) (arg m c main_arg6) (arg m c main_arg7) (arg m c main_arg8) (arg m c main_arg9) (arg m c main_arg10) (arg m c main_arg11) (arg m c main_arg12) b n ch) _ _ (fun i => (arg m c main_arg17 : FVec S64x64 .f32 (F := Ideal)) (ix2 i o))
    (fun k ch => rows1 m ρ c h0 h2 b s k ch) (fun a ch => weights1 m ρ c a ch o)).trans ?_
  exact Network.result_congr _ _ _ _ (fun x h => congrFun e13 _) (fun h => bias35 m ρ c h) (fun h a => congrFun e15 _)
    (fun a => bias36 m ρ c a) (bias37 m ρ c o) (fun x => congrFun e2 _) ((congrFun e21 _).trans (features m ρ c h0 h2 b s o))

include h0 h2 in
/-- The kernel's result is the reference's. -/
theorem value_eq : W11 m ρ c (Proc.devRef .tc main_v38)
    = ReferenceIdeal.Read.val_main_v105 (F := Ideal) (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) :=
  (W11_arr m ρ c 9).trans (Dense2.array_eq (V10 m ρ) c _ fun b s o => (result_eq m ρ c h0 h2 b s o).symm)

end Cert.KernelIdeal.Values
-- ==== Proof.Finite.lean ====
/- The precondition read: every coordinate of the two clouds is a real number. -/
module

public import proofs.«01_k».proof.Proof.Preconditions
public import proofs.«01_k».proof.Proof.Select
public import Idealize.ShloMosaic.Lib.ReduceAll
public import Idealize.ShloMosaic.Lib.Pointwise

@[expose] public section

set_option maxRecDepth 16384

noncomputable section

namespace Cert.Finite

open Idealize.ShloMosaic

/-- A number whose absolute value is below +∞ is neither infinity. -/
theorem finite_of_lt (x : EReal) (h : FloatOps.cmpf (F := Ideal) (φ := .f32) .olt (max x (-x)) (Ideal.ofBits .f32 0x7F800000#32) = 1#1) :
    x ≠ ⊤ ∧ x ≠ ⊥ := by
  rw [Neighbours.ofBits_inf] at h
  have h' : BitVec.ofBool (decide (max x (-x) < ⊤)) = 1#1 := h
  refine ⟨?_, ?_⟩ <;> rintro rfl <;> simp at h'

/-- Where the precondition holds, the first cloud's and the queries' coordinates are real. -/
theorem points_finite (a0 : FVec Ideal Pre_finite_points.S4x8192x3 .f32) (a2 : FVec Ideal Pre_finite_points.S4x2048x3 .f32)
    a1 a3 a4 a5 a6 a7 a8 a9 a10 a11 a12 a13 a14 a15 a16 a17 a18
    (h : Pre_finite_points.fn (F := Ideal) a0 a1 a2 a3 a4 a5 a6 a7 a8 a9 a10 a11 a12 a13 a14 a15 a16 a17 a18 = fun _ => 1#1) :
    (∀ i, a0 i ≠ (⊤ : EReal) ∧ a0 i ≠ (⊥ : EReal)) ∧ ∀ i, a2 i ≠ (⊤ : EReal) ∧ a2 i ≠ (⊥ : EReal) := by
  haveI : Subsingleton Pre_finite_points.S_.Idx := ⟨fun _ _ => funext fun a => a.elim0⟩
  obtain ⟨h0, h2⟩ := IntOp.andi_eq_one.1 (congrFun h fun a => a.elim0)
  exact ⟨fun i => finite_of_lt _ (Host.reduce_andi_all _ _ _ _ _ h0 i), fun i => finite_of_lt _ (Host.reduce_andi_all _ _ _ _ _ h2 i)⟩

end Cert.Finite
-- ==== Proof.Algebraic.lean ====
/- The value claim: over the extended reals the kernel and the reference end with the same result, where the points are finite. -/
module

public import proofs.«01_k».proof.Proof.KernelRun
public import proofs.«01_k».proof.Proof.KernelValue
public import proofs.«01_k».proof.Proof.Finite

@[expose] public section

set_option maxRecDepth 16384

noncomputable section

namespace Cert.Proof.Claims

open Idealize.ShloMosaic Idealize.SL.Sem

/-- From memories that agree on the arguments, the kernel and the reference end with equal results. -/
theorem algebraic : Cert.algebraic_KernelIdeal_ReferenceIdeal_pre_finite_points := by
  intro m g m' g' hpre hagree
  refine ⟨fun c => KernelIdeal.Gen.W11 m g c (Proc.devRef .tc KernelIdeal.main_v38), KernelIdeal.Run.run m g, ?_⟩
  refine (θ_run (Cert.ReferenceIdeal.defs (F := Ideal)) _ _).mono (fun _ h c => ⟨(h c).1.trans ?_, (h c).2⟩)
    (ReferenceIdeal.Value.run (F := Ideal) m' g')
  obtain ⟨f0, f2⟩ := Finite.points_finite _ _ _ _ _ _ _ _ _ _ _ _ _ _ _ _ _ _ _ (hpre c)
  obtain ⟨e0, e1, e2, -, -, e5, e6, e7, e8, e9, e10, e11, e12, e13, e14, e15, e16, e17, e18⟩ := hagree c
  rw [ReferenceIdeal.Read.val_main_v105_eq, e0, e1, e2, e5, e6, e7, e8, e9, e10, e11, e12, e13, e14, e15, e16, e17, e18]
  exact (KernelIdeal.Values.value_eq m g c f0 f2).symm

end Cert.Proof.Claims

end
-- ==== Proof.lean ====
/- The certificate: the three programs' frames, the kernel's idealization, and the equality of its result with the
   reference's over the extended reals. The parts are proved in the modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Preconditions
public import proofs.«01_k».proof.Proof.Algebraic
public import Idealize.ShloMosaic.Adequacy
public import Idealize.ShloMosaic.Init

@[expose] public section

noncomputable section

-- The claims about Kernel, KernelIdeal and ReferenceIdeal also say that every semaphore counter ends at zero; the frames show that too.

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Claims.finitePointsFacts, Claims.frame_p,
    Claims.frame_pi, Claims.frame_pi_finite, Claims.frame_ri, Claims.frame_ri_finite, Claims.preserves, Claims.algebraic⟩

end Cert.Proof

end
